-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S32768x4x128 : Shape := ⟨3, ![32768, 4, 128]⟩
abbrev S4x32768x128 : Shape := ⟨3, ![4, 32768, 128]⟩
abbrev S4x2048x2048 : Shape := ⟨3, ![4, 2048, 2048]⟩
abbrev S1x1024 : Shape := ⟨2, ![1, 1024]⟩
abbrev S1024x512 : Shape := ⟨2, ![1024, 512]⟩
abbrev S4x64x2048 : Shape := ⟨3, ![4, 64, 2048]⟩
abbrev S4x1024x128 : Shape := ⟨3, ![4, 1024, 128]⟩
abbrev S1x64x128 : Shape := ⟨3, ![1, 64, 128]⟩
abbrev S64x128 : Shape := ⟨2, ![64, 128]⟩
abbrev S1x1024x128 : Shape := ⟨3, ![1, 1024, 128]⟩
abbrev S1024x128 : Shape := ⟨2, ![1024, 128]⟩
abbrev S1024x1 : Shape := ⟨2, ![1024, 1]⟩
abbrev S1024x2048 : Shape := ⟨2, ![1024, 2048]⟩
abbrev S2048x1024 : Shape := ⟨2, ![2048, 1024]⟩

abbrev nBuf : Space → Nat
  | .hbm => 19
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x1024, .f32⟩
  | .hbm, ⟨8, _⟩ => ⟨S32768x512, .f32⟩
  | .hbm, ⟨9, _⟩ => ⟨S32768x512, .bf16⟩
  | .hbm, ⟨10, _⟩ => ⟨S32768x4x128, .f32⟩
  | .hbm, ⟨11, _⟩ => ⟨S4x32768x128, .f32⟩
  | .hbm, ⟨12, _⟩ => ⟨S4x2048x2048, .f32⟩
  | .hbm, ⟨13, _⟩ => ⟨S4x2048x2048, .bf16⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S4x64x2048, .bf16⟩
  | .local _ .vmem, ⟨5, _⟩ => ⟨S4x64x2048, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | .local _ .vmem, ⟨12, _⟩ => ⟨S4x1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x4096, .f32⟩
  | .hbm, ⟨27, _⟩ => ⟨S_, .f32⟩
  | .hbm, ⟨28, _⟩ => ⟨S4x8192x4096, .f32⟩
  | .hbm, ⟨29, _⟩ => ⟨S4x8192x4096, .f32⟩
  | .hbm, ⟨30, _⟩ => ⟨S4x8192x4096, .f32⟩
  | .hbm, ⟨31, _⟩ => ⟨S4x8192x1024, .f32⟩
  | .hbm, ⟨32, _⟩ => ⟨S4x8192x1024, .f32⟩
  | .hbm, ⟨33, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel2.lean ====
abbrev S32x8 : Shape := ⟨2, ![32, 8]⟩
abbrev S3x128x256 : Shape := ⟨3, ![3, 128, 256]⟩
abbrev S3x2x4x256x256 : Shape := ⟨5, ![3, 2, 4, 256, 256]⟩
abbrev S1x128x256 : Shape := ⟨3, ![1, 128, 256]⟩
abbrev S1x2x4x256x256 : Shape := ⟨5, ![1, 2, 4, 256, 256]⟩
abbrev S128x256 : Shape := ⟨2, ![128, 256]⟩
abbrev S1x1 : Shape := ⟨2, ![1, 1]⟩
abbrev S1x1x1x128x256 : Shape := ⟨5, ![1, 1, 1, 128, 256]⟩

abbrev nBuf : Space → Nat
  | .hbm => 4
  | .vmem => 6
  | .smem => 1
  | _ => 0

abbrev bufTy : (tb : Table) → Fin (tcTables nBuf tb) → BufTy
  | .hbm, ⟨0, _⟩ => ⟨S32x8, .f32⟩
  | .hbm, ⟨1, _⟩ => ⟨S3x128x256, .i32⟩
  | .hbm, ⟨2, _⟩ => ⟨S3x128x256, .i32⟩
  | .hbm, ⟨3, _⟩ => ⟨S3x2x4x256x256, .f32⟩
  | .local _ .vmem, ⟨0, _⟩ => ⟨S1x128x256, .i32⟩
  | .local _ .vmem, ⟨1, _⟩ => ⟨S1x128x256, .i32⟩
  | .local _ .vmem, ⟨2, _⟩ => ⟨S1x128x256, .i32⟩
  | .local _ .vmem, ⟨3, _⟩ => ⟨S1x128x256, .i32⟩
  | .local _ .vmem, ⟨4, _⟩ => ⟨S1x2x4x256x256, .f32⟩
  | .local _ .vmem, ⟨5, _⟩ => ⟨S1x2x4x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32x8 : Shape := ⟨2, ![32, 8]⟩
abbrev S128 : Shape := ⟨1, ![128]⟩
abbrev S1x8x16 : Shape := ⟨3, ![1, 8, 16]⟩
abbrev S1x16x8 : Shape := ⟨3, ![1, 16, 8]⟩
abbrev S1x32x4 : Shape := ⟨3, ![1, 32, 4]⟩
abbrev S1x4x32 : Shape := ⟨3, ![1, 4, 32]⟩
abbrev S1x128x1 : Shape := ⟨3, ![1, 128, 1]⟩
abbrev S1x1x128 : Shape := ⟨3, ![1, 1, 128]⟩
abbrev S1x128 : Shape := ⟨2, ![1, 128]⟩
abbrev S3x128 : Shape := ⟨2, ![3, 128]⟩
abbrev S3x128x1 : Shape := ⟨3, ![3, 128, 1]⟩
abbrev S256 : Shape := ⟨1, ![256]⟩
abbrev S2x8x16 : Shape := ⟨3, ![2, 8, 16]⟩
abbrev S2x16x8 : Shape := ⟨3, ![2, 16, 8]⟩
abbrev S2x32x4 : Shape := ⟨3, ![2, 32, 4]⟩
abbrev S2x4x32 : Shape := ⟨3, ![2, 4, 32]⟩
abbrev S2x128x1 : Shape := ⟨3, ![2, 128, 1]⟩
abbrev S2x1x128 : Shape := ⟨3, ![2, 1, 128]⟩
abbrev S1x256 : Shape := ⟨2, ![1, 256]⟩
abbrev S3x256 : Shape := ⟨2, ![3, 256]⟩
abbrev S3x1x256 : Shape := ⟨3, ![3, 1, 256]⟩
abbrev S_ : Shape := ⟨0, ![]⟩
abbrev S1x1 : Shape := ⟨2, ![1, 1]⟩
abbrev S1x1x1 : Shape := ⟨3, ![1, 1, 1]⟩
abbrev S3x1x1 : Shape := ⟨3, ![3, 1, 1]⟩
abbrev S3x128x256 : Shape := ⟨3, ![3, 128, 256]⟩
abbrev S3x128x256x1 : Shape := ⟨4, ![3, 128, 256, 1]⟩
abbrev S3x128x256x8 : Shape := ⟨4, ![3, 128, 256, 8]⟩
abbrev S3x8x128x256 : Shape := ⟨4, ![3, 8, 128, 256]⟩
abbrev S3x1x128x256 : Shape := ⟨4, ![3, 1, 128, 256]⟩
abbrev S3x1x8x128x256 : Shape := ⟨5, ![3, 1, 8, 128, 256]⟩
abbrev S3x2x8x128x256 : Shape := ⟨5, ![3, 2, 8, 128, 256]⟩
abbrev S3x2x4x256x256 : Shape := ⟨5, ![3, 2, 4, 256, 256]⟩

abbrev nBuf : Space → Nat
  | .hbm => 125
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S1x8x16, .i32⟩
  | .hbm, ⟨3, _⟩ => ⟨S1x16x8, .i32⟩
  | .hbm, ⟨4, _⟩ => ⟨S128, .i32⟩
  | .hbm, ⟨5, _⟩ => ⟨S128, .i32⟩
  | .hbm, ⟨6, _⟩ => ⟨S1x32x4, .i32⟩
  | .hbm, ⟨7, _⟩ => ⟨S1x4x32, .i32⟩
  | .hbm, ⟨8, _⟩ => ⟨S128, .i32⟩
  | .hbm, ⟨9, _⟩ => ⟨S128, .i32⟩
  | .hbm, ⟨10, _⟩ => ⟨S1x128x1, .i32⟩
  | .hbm, ⟨11, _⟩ => ⟨S1x1x128, .i32⟩
  | .hbm, ⟨12, _⟩ => ⟨S128, .i32⟩
  | .hbm, ⟨13, _⟩ => ⟨S1x128, .i32⟩
  | .hbm, ⟨14, _⟩ => ⟨S1x128, .i32⟩
  | .hbm, ⟨15, _⟩ => ⟨S1x128, .i32⟩
  | .hbm, ⟨16, _⟩ => ⟨S3x128, .i32⟩
  | .hbm, ⟨17, _⟩ => ⟨S3x128x1, .i32⟩
  | .hbm, ⟨18, _⟩ => ⟨S256, .i32⟩
  | .hbm, ⟨19, _⟩ => ⟨S2x8x16, .i32⟩
  | .hbm, ⟨20, _⟩ => ⟨S2x16x8, .i32⟩
  | .hbm, ⟨21, _⟩ => ⟨S256, .i32⟩
  | .hbm, ⟨22, _⟩ => ⟨S256, .i32⟩
  | .hbm, ⟨23, _⟩ => ⟨S2x32x4, .i32⟩
  | .hbm, ⟨24, _⟩ => ⟨S2x4x32, .i32⟩
  | .hbm, ⟨25, _⟩ => ⟨S256, .i32⟩
  | .hbm, ⟨26, _⟩ => ⟨S256, .i32⟩
  | .hbm, ⟨27, _⟩ => ⟨S2x128x1, .i32⟩
  | .hbm, ⟨28, _⟩ => ⟨S2x1x128, .i32⟩
  | .hbm, ⟨29, _⟩ => ⟨S256, .i32⟩
  | .hbm, ⟨30, _⟩ => ⟨S1x256, .i32⟩
  | .hbm, ⟨31, _⟩ => ⟨S1x256, .i32⟩
  | .hbm, ⟨32, _⟩ => ⟨S1x256, .i32⟩
  | .hbm, ⟨33, _⟩ => ⟨S3x256, .i32⟩
  | .hbm, ⟨34, _⟩ => ⟨S3x1x256, .i32⟩
  | .hbm, ⟨35, _⟩ => ⟨S_, .i32⟩
  | .hbm, ⟨36, _⟩ => ⟨S1x1, .i32⟩
  | .hbm, ⟨37, _⟩ => ⟨S_, .i32⟩
  | .hbm, ⟨38, _⟩ => ⟨S1x1, .i32⟩
  | .hbm, ⟨39, _⟩ => ⟨S_, .i32⟩
  | .hbm, ⟨40, _⟩ => ⟨S1x1, .i32⟩
  | .hbm, ⟨41, _⟩ => ⟨S1x1x1, .i32⟩
  | .hbm, ⟨42, _⟩ => ⟨S1x1x1, .i32⟩
  | .hbm, ⟨43, _⟩ => ⟨S1x1x1, .i32⟩
  | .hbm, ⟨44, _⟩ => ⟨S3x1x1, .i32⟩
  | .hbm, ⟨45, _⟩ => ⟨S_, .i32⟩
  | .hbm, ⟨46, _⟩ => ⟨S3x128x1, .i32⟩
  | .hbm, ⟨47, _⟩ => ⟨S3x128x1, .i32⟩
  | .hbm, ⟨48, _⟩ => ⟨S3x128x256, .i32⟩
  | .hbm, ⟨49, _⟩ => ⟨S3x128x256, .i32⟩
  | .hbm, ⟨50, _⟩ => ⟨S3x128x256, .i32⟩
  | .hbm, ⟨51, _⟩ => ⟨S_, .i32⟩
  | .hbm, ⟨52, _⟩ => ⟨S3x128x256, .i32⟩
  | .hbm, ⟨53, _⟩ => ⟨S3x128x256, .i1⟩
  | .hbm, ⟨54, _⟩ => ⟨S_, .i32⟩
  | .hbm, ⟨55, _⟩ => ⟨S3x128x256, .i32⟩
  | .hbm, ⟨56, _⟩ => ⟨S3x128x256, .i1⟩
  | .hbm, ⟨57, _⟩ => ⟨S3x128x256, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S3x128x256, .i32⟩
  | .hbm, ⟨62, _⟩ => ⟨S3x128x256, .i32⟩
  | .hbm, ⟨63, _⟩ => ⟨S_, .i32⟩
  | .hbm, ⟨64, _⟩ => ⟨S3x128x256, .i32⟩
  | .hbm, ⟨65, _⟩ => ⟨S3x128x256, .i32⟩
  | .hbm, ⟨66, _⟩ => ⟨S3x1x1, .i32⟩
  | .hbm, ⟨67, _⟩ => ⟨S3x128x256, .i32⟩
  | .hbm, ⟨68, _⟩ => ⟨S3x128x256, .i32⟩
  | .hbm, ⟨69, _⟩ => ⟨S_, .i32⟩
  | .hbm, ⟨70, _⟩ => ⟨S3x128x256, .i32⟩
  | .hbm, ⟨71, _⟩ => ⟨S3x128x256, .i32⟩
  | .hbm, ⟨72, _⟩ => ⟨S3x128x256, .f32⟩
  | .hbm, ⟨73, _⟩ => ⟨S_, .f32⟩
  | .hbm, ⟨74, _⟩ => ⟨S3x128x256, .f32⟩
  | .hbm, ⟨75, _⟩ => ⟨S3x128x256, .f32⟩
  | .hbm, ⟨76, _⟩ => ⟨S3x128x256, .f32⟩
  | .hbm, ⟨77, _⟩ => ⟨S_, .f32⟩
  | .hbm, ⟨78, _⟩ => ⟨S3x128x256, .f32⟩
  | .hbm, ⟨79, _⟩ => ⟨S3x128x256, .f32⟩
  | .hbm, ⟨80, _⟩ => ⟨S_, .f32⟩
  | .hbm, ⟨81, _⟩ => ⟨S3x128x256, .f32⟩
  | .hbm, ⟨82, _⟩ => ⟨S3x128x256, .f32⟩
  | .hbm, ⟨83, _⟩ => ⟨S3x128x256, .i32⟩
  | .hbm, ⟨84, _⟩ => ⟨S_, .i32⟩
  | .hbm, ⟨85, _⟩ => ⟨S3x128x256, .i32⟩
  | .hbm, ⟨86, _⟩ => ⟨S3x128x256, .i32⟩
  | .hbm, ⟨87, _⟩ => ⟨S_, .i32⟩
  | .hbm, ⟨88, _⟩ => ⟨S3x128x256, .i32⟩
  | .hbm, ⟨89, _⟩ => ⟨S3x128x256, .i32⟩
  | .hbm, ⟨90, _⟩ => ⟨S_, .i32⟩
  | .hbm, ⟨91, _⟩ => ⟨S3x128x256, .i32⟩
  | .hbm, ⟨92, _⟩ => ⟨S3x128x256, .i1⟩
  | .hbm, ⟨93, _⟩ => ⟨S3x128x256, .i32⟩
  | .hbm, ⟨94, _⟩ => ⟨S_, .i32⟩
  | .hbm, ⟨95, _⟩ => ⟨S3x128x256, .i32⟩
  | .hbm, ⟨96, _⟩ => ⟨S3x128x256, .i1⟩
  | .hbm, ⟨97, _⟩ => ⟨S_, .i32⟩
  | .hbm, ⟨98, _⟩ => ⟨S3x128x256, .i32⟩
  | .hbm, ⟨99, _⟩ => ⟨S3x128x256, .i32⟩
  | .hbm, ⟨100, _⟩ => ⟨S3x128x256, .i32⟩
  | .hbm, ⟨101, _⟩ => ⟨S3x128x256x1, .i32⟩
  | .hbm, ⟨102, _⟩ => ⟨S3x128x256x8, .f32⟩
  | .hbm, ⟨103, _⟩ => ⟨S3x8x128x256, .f32⟩
  | .hbm, ⟨104, _⟩ => ⟨S3x1x128x256, .i1⟩
  | .hbm, ⟨105, _⟩ => ⟨S_, .f32⟩
  | .hbm, ⟨106, _⟩ => ⟨S_, .f32⟩
  | .hbm, ⟨107, _⟩ => ⟨S3x8x128x256, .i1⟩
  | .hbm, ⟨108, _⟩ => ⟨S3x8x128x256, .f32⟩
  | .hbm, ⟨109, _⟩ => ⟨S3x8x128x256, .f32⟩
  | .hbm, ⟨110, _⟩ => ⟨S_, .i32⟩
  | .hbm, ⟨111, _⟩ => ⟨S3x1x256, .i32⟩
  | .hbm, ⟨112, _⟩ => ⟨S3x1x256, .i1⟩
  | .hbm, ⟨113, _⟩ => ⟨S3x128x256, .i1⟩
  | .hbm, ⟨114, _⟩ => ⟨S3x128x256, .i1⟩
  | .hbm, ⟨115, _⟩ => ⟨S3x1x128x256, .i1⟩
  | .hbm, ⟨116, _⟩ => ⟨S_, .f32⟩
  | .hbm, ⟨117, _⟩ => ⟨S_, .f32⟩
  | .hbm, ⟨118, _⟩ => ⟨S3x8x128x256, .i1⟩
  | .hbm, ⟨119, _⟩ => ⟨S3x8x128x256, .f32⟩
  | .hbm, ⟨120, _⟩ => ⟨S3x8x128x256, .f32⟩
  | .hbm, ⟨121, _⟩ => ⟨S3x1x8x128x256, .f32⟩
  | .hbm, ⟨122, _⟩ => ⟨S3x1x8x128x256, .f32⟩
  | .hbm, ⟨123, _⟩ => ⟨S3x2x8x128x256, .f32⟩
  | .hbm, ⟨124, _⟩ => ⟨S3x2x4x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_c : Ref sig .tc := ⟨.hbm, 35, rfl⟩
abbrev main_v34 : Ref sig .tc := ⟨.hbm, 36, rfl⟩
abbrev main_c_0 : Ref sig .tc := ⟨.hbm, 37, rfl⟩
abbrev main_v35 : Ref sig .tc := ⟨.hbm, 38, rfl⟩
abbrev main_c_1 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_c_2 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_c_3 : Ref sig .tc := ⟨.hbm, 51, rfl⟩
abbrev main_v46 : Ref sig .tc := ⟨.hbm, 52, rfl⟩
abbrev main_v47 : Ref sig .tc := ⟨.hbm, 53, rfl⟩
abbrev main_c_4 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_c_5 : Ref sig .tc := ⟨.hbm, 58, rfl⟩
abbrev main_c_6 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_v66 : Ref sig .tc := ⟨.hbm, 85, rfl⟩
abbrev main_v67 : Ref sig .tc := ⟨.hbm, 86, rfl⟩
abbrev main_c_11 : Ref sig .tc := ⟨.hbm, 87, rfl⟩
abbrev main_v68 : Ref sig .tc := ⟨.hbm, 88, rfl⟩
abbrev main_v69 : Ref sig .tc := ⟨.hbm, 89, rfl⟩
abbrev main_c_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_13 : Ref sig .tc := ⟨.hbm, 94, rfl⟩
abbrev main_v73 : Ref sig .tc := ⟨.hbm, 95, rfl⟩
abbrev main_v74 : Ref sig .tc := ⟨.hbm, 96, rfl⟩
abbrev main_c_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v82 : Ref sig .tc := ⟨.hbm, 109, rfl⟩
abbrev main_c_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== Proof.Relay.lean ====
/- The staging buffer of the out-projection and feed-forward kernel. Sixteen tokens of one head pair lie side by side on the lanes of
   a row of the attention block; the body scatters them, one token of every row at a time, through a buffer of one plane per head
   pair, and reads whole planes back. Here: what that buffer holds when it is read. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Relay

open Cert.KernelIdeal Cert.KernelIdeal.Gen Idealize.ShloMosaic Idealize.ShloMosaic.TcCoe Idealize.SL.Sem

/-- The staging buffer after all its stores: plane `y 0`, token `y 1`, lane `y 2` holds the attention block's row `y 1 / 16`
    at the lane `y 2` of the `y 1 % 16`-th group of 128 lanes. -/
def relayed (x2 : FVec Ideal S4x64x2048 .bf16) (y : S4x1024x128.Idx) : EReal :=
  x2 (ix3 (y 0) ⟨(y 1).val / 16, by have h : (y 1).val < 1024 := (y 1).isLt; omega⟩
    ⟨(y 1).val % 16 * 128 + (y 2).val, by have h : (y 2).val < 128 := (y 2).isLt; omega⟩)

/-- What one store writes: the loaded rows, their unit axis dropped, widened, and put back under a unit axis. -/
abbrev widened (v : FVec Ideal S1x64x128 .bf16) : FVec Ideal S1x64x128 .f32 :=
  shapeCast S1x64x128 (extf .f32 (shapeCast S64x128 v shapeCasts_S1x64x128_S64x128 : FVec Ideal S64x128 .bf16) bitsLt_bf16_f32)
    shapeCasts_S64x128_S1x64x128

/-- Widening changes no element. -/
theorem widened_apply (v : FVec Ideal S1x64x128 .bf16) (x : S1x64x128.Idx) : widened v x = v x := by
  idx_vars x
  pointwise [widened]
  try (congr 1; ext a; fin_cases a <;> simp)

/-- Rows of the attention block that one store takes lie inside the block. -/
theorem load_inb (hp : Fin 4) (r : Fin 16) :
    ∀ a, (![hp.val, 0, r.val * 128] : Fin 3 → ℕ) a + S1x64x128.size a ≤ S4x64x2048.size a := by
  revert hp r; decide

/-- The strided rows one store writes lie inside the buffer. -/
theorem store_inb (hp : Fin 4) (r : Fin 16) :
    ∀ a, S1x64x128.size a = 0 ∨ (![hp.val, r.val, 0] : Fin 3 → ℕ) a + (![1, 16, 1] : Fin 3 → ℕ) a * (S1x64x128.size a - 1) < S4x1024x128.size a := by
  revert hp r; decide

/-- One store: token `r` of every row of plane `hp`, from the lanes `128 r … 128 r + 127` of the attention block. -/
def store {arg3 : Memref sig .tc .vmem S4x64x2048 .bf16} (harg3 : arg3.IsWhole) (x2 : FVec Ideal S4x64x2048 .bf16)
    (hp : Fin 4) (r : Fin 16) : View.Piece (Elt Ideal) S4x1024x128 .f32 :=
  ⟨{ off := ![hp.val, r.val, 0], size := S1x64x128.size, stride := ![1, 16, 1], inb := store_inb hp r, stride_pos := spos_1_16_1 },
    widened (View.readAt (Elt Ideal) arg3.view
      (Rect.unit (s := S4x64x2048) ![hp.val, 0, r.val * 128] S1x64x128.size (load_inb hp r)).toLoadRect (harg3.unread x2))⟩

/-- What one store writes is `relayed` at the index it writes. -/
theorem store_val {arg3 : Memref sig .tc .vmem S4x64x2048 .bf16} (harg3 : arg3.IsWhole) (x2 : FVec Ideal S4x64x2048 .bf16)
    (hp : Fin 4) (r : Fin 16) (x : S1x64x128.Idx) :
    widened (View.readAt (Elt Ideal) arg3.view
      (Rect.unit (s := S4x64x2048) ![hp.val, 0, r.val * 128] S1x64x128.size (load_inb hp r)).toLoadRect (harg3.unread x2)) x
      = relayed x2 ((⟨⟨![hp.val, r.val, 0], S1x64x128.size, ![1, 16, 1], store_inb hp r⟩, spos_1_16_1⟩ : Rect S4x1024x128).emb x) := by
  refine (widened_apply _ x).trans ?_
  rw [View.readAt_eq_ld, harg3.read_unread]
  have hr := r.isLt
  have e0 : ∀ n : ℕ, n < 1 → hp.val + 1 * n = hp.val + n := fun n _ => by omega
  have e1 : ∀ n : ℕ, (r.val + 16 * n) / 16 = 0 + n := fun n => by omega
  have e2 : ∀ n l : ℕ, (r.val + 16 * n) % 16 * 128 + (0 + 1 * l) = r.val * 128 + l := fun n l => by omega
  unfold relayed
  refine View.ld_unit_apply_of _ _ _ _ _ _ fun a => ?_
  match a with
  | ⟨0, _⟩ => exact e0 _ (x 0).isLt
  | ⟨1, _⟩ => exact e1 _
  | ⟨2, _⟩ => exact e2 _ _

/-- The 64 stores, newest first. -/
def stores {arg3 : Memref sig .tc .vmem S4x64x2048 .bf16} (harg3 : arg3.IsWhole) (x2 : FVec Ideal S4x64x2048 .bf16) :
    List (View.Piece (Elt Ideal) S4x1024x128 .f32) :=
  ([3, 2, 1, 0] : List (Fin 4)).flatMap fun hp =>
    ([15, 14, 13, 12, 11, 10, 9, 8, 7, 6, 5, 4, 3, 2, 1, 0] : List (Fin 16)).map (store harg3 x2 hp)

/-- The stores the body makes are `stores`. -/
theorem stores_are (c : Dev nD) {arg3 : Memref sig .tc .vmem S4x64x2048 .bf16} (harg3 : arg3.IsWhole)
    (x2 : FVec Ideal S4x64x2048 .bf16) :
    kernelRun0_A.sl.HS0_64 (F := Ideal) c arg3 harg3 x2 = stores harg3 x2 := by
  sl_unfold_words
  rfl

/-- All 64 stores agree with `relayed`. -/
theorem stores_eq {arg3 : Memref sig .tc .vmem S4x64x2048 .bf16} (harg3 : arg3.IsWhole) (x2 : FVec Ideal S4x64x2048 .bf16) :
    ∀ p ∈ stores harg3 x2, ∀ x : p.1.shape.Idx, p.2 x = relayed x2 (p.1.emb x) := by
  intro p hp
  obtain ⟨h, _, hp⟩ := List.mem_flatMap.mp hp
  obtain ⟨r, _, rfl⟩ := List.mem_map.mp hp
  exact store_val harg3 x2 h r

/-- Every index of the buffer lies in the store of its token's row group. -/
theorem stores_cover {arg3 : Memref sig .tc .vmem S4x64x2048 .bf16} (harg3 : arg3.IsWhole)
    (x2 : FVec Ideal S4x64x2048 .bf16) (y : S4x1024x128.Idx) :
    ∃ p ∈ stores harg3 x2, y ∈ p.1.set := by
  have h1 : (y 1).val < 1024 := (y 1).isLt
  have h2 : (y 2).val < 128 := (y 2).isLt
  refine ⟨store harg3 x2 (y 0) ⟨(y 1).val % 16, by omega⟩, List.mem_flatMap.mpr ⟨y 0, ?_, List.mem_map.mpr ⟨_, ?_, rfl⟩⟩, ?_⟩
  · exact (by decide : ∀ i : Fin 4, i ∈ ([3, 2, 1, 0] : List (Fin 4))) (y 0)
  · exact (by decide : ∀ i : Fin 16, i ∈ ([15, 14, 13, 12, 11, 10, 9, 8, 7, 6, 5, 4, 3, 2, 1, 0] : List (Fin 16))) _
  · have e1 : (y 1).val = (y 1).val % 16 + 16 * ((y 1).val / 16) := by omega
    refine (LoadRect.mem_set _).mpr fun a => ?_
    match a with
    | ⟨0, _⟩ => exact ⟨0, Nat.one_pos, by show (y 0).val = (y 0).val + 1 * 0; omega⟩
    | ⟨1, _⟩ => exact ⟨(y 1).val / 16, by show (y 1).val / 16 < 64; omega, e1⟩
    | ⟨2, _⟩ => exact ⟨(y 2).val, h2, by show (y 2).val = 0 + 1 * (y 2).val; omega⟩

/-- A plane read back is `relayed` on that plane. -/
theorem plane_eq (c : Dev nD) {arg3 : Memref sig .tc .vmem S4x64x2048 .bf16} (harg3 : arg3.IsWhole)
    (x2 : FVec Ideal S4x64x2048 .bf16) {sig' : RefSig} {κ : Kind} {sp : Space} (v : View sig' κ sp S4x1024x128 .f32)
    (hp : ℕ) (h : hp < 4) (inb : ∀ a, (![hp, 0, 0] : Fin 3 → ℕ) a + S1x1024x128.size a ≤ S4x1024x128.size a)
    (t : Fin 1024) (l : Fin 128) :
    v.readCov (kernelRun0_A.sl.HS0_64 (F := Ideal) c arg3 harg3 x2)
        (Rect.unit (s := S4x1024x128) ![hp, 0, 0] S1x1024x128.size inb).toLoadRect (ix3 0 t l)
      = relayed x2 (ix3 ⟨hp, h⟩ t l) := by
  rw [View.readCov_eq_canon', stores_are]
  refine (View.canon_apply_of_pieces (relayed x2) _ (stores_eq harg3 x2) _ (stores_cover harg3 x2 _)).trans ?_
  refine congrArg (relayed x2) (funext fun a => Fin.ext ?_)
  match a with
  | ⟨0, _⟩ => show hp + 1 * 0 = hp; omega
  | ⟨1, _⟩ => show 0 + 1 * t.val = t.val; omega
  | ⟨2, _⟩ => show 0 + 1 * l.val = l.val; omega

end Cert.KernelIdeal.Relay

end
-- ==== Proof.Rows.lean ====
/- One token of the out-projection and feed-forward network, over the extended reals: what both programs compute for each of the
   32768 tokens. -/
module

public import Idealize.ShloMosaic.Lib.Pointwise

@[expose] public section

noncomputable section

namespace Cert.Rows

open Idealize.ShloMosaic

/-- The token with its residual: the joined mixer outputs through the out-projection, added to the token. -/
def residual (x mixed : Fin 1024 → EReal) (wo : Fin 1024 → Fin 1024 → EReal) (j : Fin 1024) : EReal :=
  x j + ∑ k : Fin 1024, mixed k * wo k j

/-- The token divided by the root of its mean square, and scaled. -/
def normed (h g : Fin 1024 → EReal) (j : Fin 1024) : EReal :=
  h j * Ideal.rsqrt (Ideal.div (∑ k : Fin 1024, h k * h k) (Ideal.ofBits FTy.f32 1149239296#32) + Ideal.ofBits FTy.f32 897988541#32) * g j

/-- The feed-forward column `f`, its negative part dropped, squared. -/
def squared (c : Fin 1024 → EReal) (wu : Fin 1024 → EReal) : EReal :=
  max (∑ k : Fin 1024, c k * wu k) 0 * max (∑ k : Fin 1024, c k * wu k) 0

/-- The layer's token: the residual plus the feed-forward network of the normalised token. -/
def token (x mixed : Fin 1024 → EReal) (wo : Fin 1024 → Fin 1024 → EReal) (g : Fin 1024 → EReal) (wu : Fin 1024 → Fin 4096 → EReal)
    (wd : Fin 4096 → Fin 1024 → EReal) (j : Fin 1024) : EReal :=
  residual x mixed wo j
    + ∑ f : Fin 4096, squared (normed (residual x mixed wo) g) (fun k => wu k f) * wd f j

/-- The two halves of the feed-forward columns added one after the other are all of them. -/
theorem token_halves (x mixed : Fin 1024 → EReal) (wo : Fin 1024 → Fin 1024 → EReal) (g : Fin 1024 → EReal) (wu : Fin 1024 → Fin 4096 → EReal)
    (wd : Fin 4096 → Fin 1024 → EReal) (j : Fin 1024) :
    token x mixed wo g wu wd j = residual x mixed wo j
      + ∑ f : Fin 2048, squared (normed (residual x mixed wo) g) (fun k => wu k ⟨f.val, by omega⟩) * wd ⟨f.val, by omega⟩ j
      + ∑ f : Fin 2048, squared (normed (residual x mixed wo) g) (fun k => wu k ⟨2048 + f.val, by omega⟩) * wd ⟨2048 + f.val, by omega⟩ j := by
  unfold token
  rw [Fin.sum_univ_two_halves 2048 2048 rfl, add_assoc]

end Cert.Rows

end
-- ==== Proof.Block.lean ====
/- The block one grid point of the out-projection and feed-forward kernel writes, read at an index. -/
module

public import proofs.«01_k».proof.Proof.Relay
public import proofs.«01_k».proof.Proof.Rows

@[expose] public section

set_option maxRecDepth 16384

noncomputable section

namespace Cert.KernelIdeal.Block

open Cert.KernelIdeal Cert.KernelIdeal.Gen Cert.Rows Idealize.ShloMosaic Idealize.ShloMosaic.TcCoe Idealize.SL.Sem

/-- The two mixers' outputs side by side, as the body joins them: the pooling columns, then the four head pairs. -/
def joined (p : FVec Ideal S1024x512 .bf16) (q0 q1 q2 q3 : FVec Ideal S1x1024x128 .f32) : FVec Ideal S1024x1024 .bf16 :=
  concatenate S1024x1024 1 [⟨S1024x512, p⟩,
    ⟨S1024x128, truncf .bf16 (shapeCast S1024x128 q0 shapeCasts_S1x1024x128_S1024x128 : FVec Ideal S1024x128 .f32) bitsLt_bf16_f32⟩,
    ⟨S1024x128, truncf .bf16 (shapeCast S1024x128 q1 shapeCasts_S1x1024x128_S1024x128 : FVec Ideal S1024x128 .f32) bitsLt_bf16_f32⟩,
    ⟨S1024x128, truncf .bf16 (shapeCast S1024x128 q2 shapeCasts_S1x1024x128_S1024x128 : FVec Ideal S1024x128 .f32) bitsLt_bf16_f32⟩,
    ⟨S1024x128, truncf .bf16 (shapeCast S1024x128 q3 shapeCasts_S1x1024x128_S1024x128 : FVec Ideal S1024x128 .f32) bitsLt_bf16_f32⟩]
    concatenates_S1024x512_S1024x128_S1024x128_S1024x128_S1024x128_S1024x1024_d1

/-- The joined mixer outputs of row `t`, in the layouts in which the block receives them. -/
def mixedRow (p : FVec Ideal S1024x512 .bf16) (q : FVec Ideal S4x64x2048 .bf16) (t k : Fin 1024) : EReal :=
  if h : k.val < 512 then p (ix2 t ⟨k.val, h⟩)
  else q (ix3 ⟨(k.val - 512) / 128, by omega⟩ ⟨t.val / 16, by omega⟩ ⟨t.val % 16 * 128 + (k.val - 512) % 128, by omega⟩)

/-- The joined mixer outputs at an index, when the four head pairs are the planes of the staging buffer. -/
theorem joined_apply (p : FVec Ideal S1024x512 .bf16) (q : FVec Ideal S4x64x2048 .bf16) (q0 q1 q2 q3 : FVec Ideal S1x1024x128 .f32)
    (h0 : ∀ (t : Fin 1024) (l : Fin 128), q0 (ix3 0 t l) = Relay.relayed q (ix3 0 t l))
    (h1 : ∀ (t : Fin 1024) (l : Fin 128), q1 (ix3 0 t l) = Relay.relayed q (ix3 1 t l))
    (h2 : ∀ (t : Fin 1024) (l : Fin 128), q2 (ix3 0 t l) = Relay.relayed q (ix3 2 t l))
    (h3 : ∀ (t : Fin 1024) (l : Fin 128), q3 (ix3 0 t l) = Relay.relayed q (ix3 3 t l)) (t k : Fin 1024) :
    joined p q0 q1 q2 q3 (ix2 t k) = mixedRow p q t k := by
  have key : ∀ (hp : Fin 4) (l : Fin 128) (h : 512 ≤ k.val) (_ : k.val - 512 = hp.val * 128 + l.val),
      Relay.relayed q (ix3 hp t l) = q (ix3 ⟨(k.val - 512) / 128, by omega⟩ ⟨t.val / 16, by omega⟩
        ⟨t.val % 16 * 128 + (k.val - 512) % 128, by omega⟩) := by
    intro hp l h e
    unfold Relay.relayed
    refine congrArg q (funext fun a => Fin.ext ?_)
    match a with
    | ⟨0, _⟩ => show hp.val = (k.val - 512) / 128; omega
    | ⟨1, _⟩ => rfl
    | ⟨2, _⟩ => show t.val % 16 * 128 + l.val = t.val % 16 * 128 + (k.val - 512) % 128; omega
  pointwise [joined]
  unfold mixedRow
  split
  · rfl
  · split
    · rw [h0]; exact key 0 _ (by omega) (by show _ = 0 * 128 + (k.val - 512); omega)
    · split
      · rw [h1]; exact key 1 _ (by omega) (by show _ = 1 * 128 + (k.val - 512 - 128); omega)
      · split
        · rw [h2]; exact key 2 _ (by omega) (by show _ = 2 * 128 + (k.val - 512 - 128 - 128); omega)
        · rw [h3]; exact key 3 _ (by omega) (by show _ = 3 * 128 + (k.val - 512 - 128 - 128 - 128); omega)

/-- The projected rows with the residual added. -/
theorem residual_apply (p : FVec Ideal S1024x512 .bf16) (q0 q1 q2 q3 : FVec Ideal S1x1024x128 .f32) (x : FVec Ideal S1024x1024 .f32)
    (wo : FVec Ideal S1024x1024 .bf16) (t j : Fin 1024) :
    k0_pay74 p q0 q1 q2 q3 x wo (ix2 t j) = x (ix2 t j) + ∑ k : Fin 1024, joined p q0 q1 q2 q3 (ix2 t k) * wo (ix2 k j) := by
  have e : k0_pay74 p q0 q1 q2 q3 x wo = addf (shapeCast S1024x1024 x shapeCasts_S1024x1024_S1024x1024 : FVec Ideal S1024x1024 .f32)
      (matmul dot_S1024x1024_S1024x1024_S1024x1024_1_0_0_1_n_n none (joined p q0 q1 q2 q3)
        (shapeCast S1024x1024 wo shapeCasts_S1024x1024_S1024x1024) (constant S1024x1024 .f32 0x00000000#32)) := rfl
  rw [e]
  pointwise []

/-- The normalised rows. -/
theorem normed_apply (p : FVec Ideal S1024x512 .bf16) (q0 q1 q2 q3 : FVec Ideal S1x1024x128 .f32) (x : FVec Ideal S1024x1024 .f32)
    (wo : FVec Ideal S1024x1024 .bf16) (g : FVec Ideal S1x1024 .f32) (t j : Fin 1024) :
    k0_pay75 p q0 q1 q2 q3 x wo g (ix2 t j)
      = normed (fun k => k0_pay74 p q0 q1 q2 q3 x wo (ix2 t k)) (fun k => g (ix2 0 k)) j := by
  unfold k0_pay75 normed
  generalize k0_pay74 p q0 q1 q2 q3 x wo = H
  pointwise []

/-- The first half of the feed-forward columns, before their negative part is dropped. -/
theorem columns_apply (p : FVec Ideal S1024x512 .bf16) (q0 q1 q2 q3 : FVec Ideal S1x1024x128 .f32) (x : FVec Ideal S1024x1024 .f32)
    (wo : FVec Ideal S1024x1024 .bf16) (g : FVec Ideal S1x1024 .f32) (w : FVec Ideal S1024x2048 .bf16) (t : Fin 1024) (f : Fin 2048) :
    k0_pay76 p q0 q1 q2 q3 x wo g w (ix2 t f)
      = ∑ k : Fin 1024, k0_pay75 p q0 q1 q2 q3 x wo g (ix2 t k) * w (ix2 k f) := by
  unfold k0_pay76
  generalize k0_pay75 p q0 q1 q2 q3 x wo g = C
  pointwise []

/-- The accumulator over the two halves of the feed-forward columns. -/
theorem halves_apply (H : FVec Ideal S1024x1024 .f32) (C : FVec Ideal S1024x1024 .bf16) (U : FVec Ideal S1024x2048 .f32)
    (w : FVec Ideal S1024x2048 .bf16) (d1 d2 : FVec Ideal S2048x1024 .bf16) (t j : Fin 1024) :
    k0_pay1 H C U (Scalar.ofBits .f32 0x00000000#32) d1 w d2 (ix2 t j)
      = H (ix2 t j) + ∑ f : Fin 2048, max (U (ix2 t f)) 0 * max (U (ix2 t f)) 0 * d1 (ix2 f j)
        + ∑ f : Fin 2048, squared (fun k => C (ix2 t k)) (fun k => w (ix2 k f)) * d2 (ix2 f j) := by
  pointwise [k0_pay1, squared]

/-- What the body computes from its blocks: `token` of every row. -/
theorem body_apply (p : FVec Ideal S1024x512 .bf16) (q : FVec Ideal S4x64x2048 .bf16) (q0 q1 q2 q3 : FVec Ideal S1x1024x128 .f32)
    (h0 : ∀ (t : Fin 1024) (l : Fin 128), q0 (ix3 0 t l) = Relay.relayed q (ix3 0 t l))
    (h1 : ∀ (t : Fin 1024) (l : Fin 128), q1 (ix3 0 t l) = Relay.relayed q (ix3 1 t l))
    (h2 : ∀ (t : Fin 1024) (l : Fin 128), q2 (ix3 0 t l) = Relay.relayed q (ix3 2 t l))
    (h3 : ∀ (t : Fin 1024) (l : Fin 128), q3 (ix3 0 t l) = Relay.relayed q (ix3 3 t l))
    (x : FVec Ideal S1024x1024 .f32) (wo : FVec Ideal S1024x1024 .bf16) (g : FVec Ideal S1x1024 .f32)
    (w1 w2 : FVec Ideal S1024x2048 .bf16) (d1 d2 : FVec Ideal S2048x1024 .bf16)
    (wu : FVec Ideal S1024x4096 .bf16) (wd : FVec Ideal S4096x1024 .bf16)
    (hw1 : ∀ (k : Fin 1024) (f : Fin 2048), w1 (ix2 k f) = wu (ix2 k ⟨f.val, by omega⟩))
    (hw2 : ∀ (k : Fin 1024) (f : Fin 2048), w2 (ix2 k f) = wu (ix2 k ⟨2048 + f.val, by omega⟩))
    (hd1 : ∀ (f : Fin 2048) (j : Fin 1024), d1 (ix2 f j) = wd (ix2 ⟨f.val, by omega⟩ j))
    (hd2 : ∀ (f : Fin 2048) (j : Fin 1024), d2 (ix2 f j) = wd (ix2 ⟨2048 + f.val, by omega⟩ j)) (t j : Fin 1024) :
    k0_pay1 (k0_pay74 p q0 q1 q2 q3 x wo) (k0_pay75 p q0 q1 q2 q3 x wo g) (k0_pay76 p q0 q1 q2 q3 x wo g w1)
        (Scalar.ofBits .f32 0x00000000#32) d1 w2 d2 (ix2 t j)
      = token (fun k => x (ix2 t k)) (mixedRow p q t) (fun k l => wo (ix2 k l)) (fun k => g (ix2 0 k))
          (fun k f => wu (ix2 k f)) (fun f l => wd (ix2 f l)) j := by
  have eH : ∀ k : Fin 1024, k0_pay74 p q0 q1 q2 q3 x wo (ix2 t k)
      = residual (fun k => x (ix2 t k)) (mixedRow p q t) (fun k l => wo (ix2 k l)) k := fun k => by
    rw [residual_apply]
    simp only [joined_apply p q q0 q1 q2 q3 h0 h1 h2 h3]
    rfl
  have eC : ∀ k : Fin 1024, k0_pay75 p q0 q1 q2 q3 x wo g (ix2 t k)
      = normed (residual (fun k => x (ix2 t k)) (mixedRow p q t) (fun k l => wo (ix2 k l))) (fun k => g (ix2 0 k)) k := fun k => by
    rw [normed_apply]
    simp only [eH]
  rw [halves_apply, token_halves]
  simp only [columns_apply, eH, eC, hw1, hw2, hd1, hd2]
  rfl

end Cert.KernelIdeal.Block

end
-- ==== Proof.Out.lean ====
/- The block one grid point of the out-projection and feed-forward kernel writes, read at an index. -/
module

public import proofs.«01_k».proof.Proof.Block
public import proofs.«01_k».proof.Proof.Rows

@[expose] public section

set_option maxRecDepth 16384

noncomputable section

namespace Cert.KernelIdeal.Block

open Cert.KernelIdeal Cert.KernelIdeal.Gen Cert.Rows Idealize.ShloMosaic Idealize.ShloMosaic.TcCoe Idealize.SL.Sem

/-- What the body leaves in its output block, from any blocks. -/
theorem out_apply (c : Dev nD) (t : Fin cfg0.N) (b0 : FVec Ideal S1024x1024 .f32) (b1 : FVec Ideal S1024x512 .bf16)
    (b2 : FVec Ideal S4x64x2048 .bf16) (b3 : FVec Ideal S1024x1024 .bf16) (b4 : FVec Ideal S1x1024 .f32)
    (b5 : FVec Ideal S1024x4096 .bf16) (b6 : FVec Ideal S4096x1024 .bf16) (r j : Fin 1024) :
    out0_A_7 (F := Ideal) c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) b0 b1 b2 b3 b4 b5 b6 (ix2 r j)
      = token (fun k => b0 (ix2 r k)) (mixedRow b1 b2 r) (fun k l => b3 (ix2 k l)) (fun k => b4 (ix2 0 k))
          (fun k f => b5 (ix2 k f)) (fun f l => b6 (ix2 f l)) j := by
  unfold out0_A_7
  rw [View.read_writes_eq_canon _ _ _ (cover0_A_7 c _ _ _ _ _ _ _ _ _ _ _ _ _ _ _ _ _ _ _ _ _ _ _ _ _ _)]
  unfold kernelRun0_A
  dsimp only
  refine (congrFun (View.canon_cons_unit_lit (S := S1024x1024) _ _ _ (by decide)) _).trans ?_
  unfold kernelRun0_A.sl.r_10 kernelRun0_A.sl.r_11 kernelRun0_A.sl.r_12 kernelRun0_A.sl.r_9 kernelRun0_A.sl.cst_379
  simp only [View.readAt_eq_ld, Memref.IsWhole.read_unread]
  rw [show View.ld (Val := Elt Ideal) (e' := .f32) b0 (Rect.unit ![0, 0] ![1024, 1024] inb_S1024x1024_S1024x1024_0_0) = b0 from
      View.ld_unit_lit (S := S1024x1024) _ _ (by decide),
    show View.ld (Val := Elt Ideal) (e' := .bf16) b1 (Rect.unit ![0, 0] ![1024, 512] inb_S1024x512_S1024x512_0_0) = b1 from
      View.ld_unit_lit (S := S1024x512) _ _ (by decide),
    show View.ld (Val := Elt Ideal) (e' := .bf16) b3 (Rect.unit ![0, 0] ![1024, 1024] inb_S1024x1024_S1024x1024_0_0) = b3 from
      View.ld_unit_lit (S := S1024x1024) _ _ (by decide),
    show View.ld (Val := Elt Ideal) (e' := .f32) b4 (Rect.unit ![0, 0] ![1, 1024] inb_S1x1024_S1x1024_0_0) = b4 from
      View.ld_unit_lit (S := S1x1024) _ _ (by decide)]
  have e73 : ∀ p : FVec Ideal S1024x512 .bf16, k0_pay73 p = p := fun p => by funext i; pointwise [k0_pay73]
  rw [e73 b1]
  refine body_apply b1 b2 _ _ _ _ ?_ ?_ ?_ ?_ b0 b3 b4 _ _ _ _ b5 b6 ?_ ?_ ?_ ?_ r j
  · intro t' l; exact Relay.plane_eq c _ b2 _ 0 (by decide) _ t' l
  · intro t' l; exact Relay.plane_eq c _ b2 _ 1 (by decide) _ t' l
  · intro t' l; exact Relay.plane_eq c _ b2 _ 2 (by decide) _ t' l
  · intro t' l; exact Relay.plane_eq c _ b2 _ 3 (by decide) _ t' l
  · intro k f
    refine View.ld_unit_apply_of _ _ _ _ _ _ fun a => ?_
    match a with
    | ⟨0, _⟩ => exact (Nat.zero_add _).symm
    | ⟨1, _⟩ => exact (Nat.zero_add _).symm
  · intro k f
    refine View.ld_unit_apply_of _ _ _ _ _ _ fun a => ?_
    match a with
    | ⟨0, _⟩ => exact (Nat.zero_add _).symm
    | ⟨1, _⟩ => rfl
  · intro f l
    refine View.ld_unit_apply_of _ _ _ _ _ _ fun a => ?_
    match a with
    | ⟨0, _⟩ => exact (Nat.zero_add _).symm
    | ⟨1, _⟩ => exact (Nat.zero_add _).symm
  · intro f l
    refine View.ld_unit_apply_of _ _ _ _ _ _ fun a => ?_
    match a with
    | ⟨0, _⟩ => rfl
    | ⟨1, _⟩ => exact (Nat.zero_add _).symm

/-- What a grid point leaves in its output block, at an index. -/
theorem outs_apply (m : (ℓ : Loc nD τ sig) → Buf (Elt Ideal) ℓ) (c : Dev nD) (t : Fin cfg0.N) (r j : Fin 1024) :
    outsAt0 m c t (ix2 r j)
      = token (fun k => (iblk m c 0 t : FVec Ideal S1024x1024 .f32) (ix2 r k)) (mixedRow (iblk m c 1 t) (iblk m c 2 t) r)
          (fun k l => (iblk m c 3 t : FVec Ideal S1024x1024 .bf16) (ix2 k l)) (fun k => (iblk m c 4 t : FVec Ideal S1x1024 .f32) (ix2 0 k))
          (fun k f => (iblk m c 5 t : FVec Ideal S1024x4096 .bf16) (ix2 k f)) (fun f l => (iblk m c 6 t : FVec Ideal S4096x1024 .bf16) (ix2 f l)) j :=
  out_apply c t _ _ _ _ _ _ _ r j

end Cert.KernelIdeal.Block

end
-- ==== Proof.Reference.lean ====
/- The reference, read at an index: every row of its result is a token of `Cert.Rows`. -/
module

public import proofs.«01_k».proof.Proof.Gen.ReferenceIdeal.Read
public import proofs.«01_k».proof.Proof.Rows

@[expose] public section

set_option maxRecDepth 16384

noncomputable section

namespace Cert.ReferenceIdeal.Value

open Cert.ReferenceIdeal Cert.ReferenceIdeal.Gen Cert.ReferenceIdeal.Read Cert.Rows Idealize.ShloMosaic Idealize.ShloMosaic.TcCoe
  Idealize.SL.Sem Idealize.ShloMosaic.StableHlo

variable (x0 : FVec Ideal S4x8192x1024 .f32) (x1 x2 : FVec Ideal S4x8192x512 .f32) (x3 : FVec Ideal S1024x1024 .f32)
  (x4 : FVec Ideal S1024 .f32) (x5 : FVec Ideal S1024x4096 .f32) (x6 : FVec Ideal S4096x1024 .f32)

/-- The two mixers' outputs for one token, side by side. -/
def mixedRow (b : Fin 4) (s : Fin 8192) (k : Fin 1024) : EReal :=
  if h : k.val < 512 then x1 (ix3 b s ⟨k.val, h⟩) else x2 (ix3 b s ⟨k.val - 512, by omega⟩)

/-- The joined mixer outputs, at an index. -/
theorem mixed_apply (b : Fin 4) (s : Fin 8192) (k : Fin 1024) :
    val_main_v0 (F := Ideal) x1 x2 (ix3 b s k) = mixedRow x1 x2 b s k := by
  pointwise [val_main_v0, mixedRow]

/-- The residual rows, at an index. -/
theorem hidden_apply (b : Fin 4) (s : Fin 8192) (j : Fin 1024) :
    val_main_v2 (F := Ideal) x0 x1 x2 x3 (ix3 b s j)
      = residual (fun k => x0 (ix3 b s k)) (mixedRow x1 x2 b s) (fun k l => x3 (ix2 k l)) j := by
  unfold Rows.residual
  simp only [← mixed_apply]
  unfold val_main_v2 val_main_v1
  generalize val_main_v0 (F := Ideal) x1 x2 = M
  pointwise []

/-- The normalised rows, at an index. -/
theorem normed_apply (b : Fin 4) (s : Fin 8192) (j : Fin 1024) :
    val_main_v15 (F := Ideal) x0 x1 x2 x3 x4 (ix3 b s j)
      = normed (residual (fun k => x0 (ix3 b s k)) (mixedRow x1 x2 b s) (fun k l => x3 (ix2 k l))) (fun k => x4 (ix1 k)) j := by
  unfold normed
  simp only [← hidden_apply]
  unfold val_main_v15 val_main_v12 val_main_v11 val_main_v10 val_main_v9 val_main_v7 val_main_v5 val_main_v4 val_main_v3
  generalize val_main_v2 (F := Ideal) x0 x1 x2 x3 = H
  pointwise [val_main_v14, val_main_v13, val_main_v8, val_main_cst_1, val_main_v6, val_main_cst_0, val_main_cst]

/-- The squared feed-forward columns, at an index. -/
theorem squared_apply (b : Fin 4) (s : Fin 8192) (f : Fin 4096) :
    val_main_v18 (F := Ideal) x0 x1 x2 x3 x4 x5 (ix3 b s f)
      = squared (normed (residual (fun k => x0 (ix3 b s k)) (mixedRow x1 x2 b s) (fun k l => x3 (ix2 k l))) (fun k => x4 (ix1 k)))
          (fun k => x5 (ix2 k f)) := by
  unfold squared
  simp only [← normed_apply]
  unfold val_main_v18 val_main_v17 val_main_v16
  generalize val_main_v15 (F := Ideal) x0 x1 x2 x3 x4 = C
  pointwise [val_main_call0_v0, val_main_call0_cst]

/-- The reference's result at token `t`, column `j`. -/
theorem token_apply (t : Fin 32768) (j : Fin 1024) :
    val_main_v21 (F := Ideal) x0 x1 x2 x3 x4 x5 x6 (ix2 t j)
      = token (fun k => x0 (ix3 ⟨t.val / 8192, by omega⟩ ⟨t.val % 8192, by omega⟩ k))
          (mixedRow x1 x2 ⟨t.val / 8192, by omega⟩ ⟨t.val % 8192, by omega⟩) (fun k l => x3 (ix2 k l))
          (fun k => x4 (ix1 k)) (fun k f => x5 (ix2 k f)) (fun f l => x6 (ix2 f l)) j := by
  unfold token
  simp only [← squared_apply, ← hidden_apply]
  unfold val_main_v21 val_main_v20 val_main_v19
  generalize val_main_v18 (F := Ideal) x0 x1 x2 x3 x4 x5 = S
  generalize val_main_v2 (F := Ideal) x0 x1 x2 x3 = H
  pointwise []

end Cert.ReferenceIdeal.Value

end
-- ==== Proof.Array.lean ====
/- The kernel's result array: every grid point writes 1024 tokens, and each is the reference's token. -/
module

public import proofs.«01_k».proof.Proof.Out
public import proofs.«01_k».proof.Proof.Reference
public import Idealize.ShloMosaic.Lib.Claim

@[expose] public section

set_option maxRecDepth 16384

noncomputable section

namespace Cert.KernelIdeal.Array

open Cert.KernelIdeal Cert.KernelIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![0, 0] ∧ win0_6.index t = ![0, 0]
    ∧ win0_7.index t = ![t.val, 0] ∧ t.val < 32 :=
  (by decide +kernel : ∀ t : Fin grid0.N, _)

/-- Block row `r` of the token window is a row of the first argument. -/
theorem tokens_at (c : Dev nD) (t : Fin cfg0.N) (r k : Fin 1024) (ht : t.val < 32) :
    (iblk m c 0 t : FVec Ideal S1024x1024 .f32) (ix2 r k)
      = (m ((c : Thread nD τ).loc main_arg0) : FVec Ideal S4x8192x1024 .f32)
          (ix3 ⟨(1024 * t.val + r.val) / 8192, by omega⟩ ⟨(1024 * t.val + r.val) % 8192, by omega⟩ k) := by
  blk_simp [iblk]
  entry_read
  pointwise []
  blk_ext [idx t]

/-- Block row `r` of the pooling mixer's window is a row of the second argument. -/
theorem pool_at (c : Dev nD) (t : Fin cfg0.N) (r : Fin 1024) (k : Fin 512) (ht : t.val < 32) :
    (iblk m c 1 t : FVec Ideal S1024x512 .bf16) (ix2 r k)
      = (m ((c : Thread nD τ).loc main_arg1) : FVec Ideal S4x8192x512 .f32)
          (ix3 ⟨(1024 * t.val + r.val) / 8192, by omega⟩ ⟨(1024 * t.val + r.val) % 8192, by omega⟩ k) := by
  blk_simp [iblk]
  entry_read
  pointwise []
  blk_ext [idx t]

/-- The attention mixer's window holds four planes: plane `p` has sixteen tokens' lanes of head group `p` in a row. -/
theorem attn_at (c : Dev nD) (t : Fin cfg0.N) (p : Fin 4) (r : Fin 64) (k : Fin 2048) (ht : t.val < 32) :
    (iblk m c 2 t : FVec Ideal S4x64x2048 .bf16) (ix3 p r k)
      = (m ((c : Thread nD τ).loc main_arg2) : FVec Ideal S4x8192x512 .f32)
          (ix3 ⟨(1024 * t.val + 16 * r.val + k.val / 128) / 8192, by omega⟩ ⟨(1024 * t.val + 16 * r.val + k.val / 128) % 8192, by omega⟩
            ⟨p.val * 128 + k.val % 128, by omega⟩) := by
  blk_simp [iblk]
  entry_read
  pointwise []
  blk_ext [idx t]

/-- The output projection's block is the argument. -/
theorem out_weights (c : Dev nD) (t : Fin cfg0.N) (k j : Fin 1024) :
    (iblk m c 3 t : FVec Ideal S1024x1024 .bf16) (ix2 k j)
      = (m ((c : Thread nD τ).loc main_arg3) : FVec Ideal S1024x1024 .f32) (ix2 k j) := by
  blk_simp [iblk]
  entry_read
  pointwise []
  blk_ext [idx t]

/-- The normalisation's scales are the argument. -/
theorem scales (c : Dev nD) (t : Fin cfg0.N) (k : Fin 1024) :
    (iblk m c 4 t : FVec Ideal S1x1024 .f32) (ix2 0 k)
      = (m ((c : Thread nD τ).loc main_arg4) : FVec Ideal S1024 .f32) (ix1 k) := by
  blk_simp [iblk]
  entry_read
  pointwise []
  blk_ext [idx t]

/-- The up projection's block is the argument. -/
theorem up_weights (c : Dev nD) (t : Fin cfg0.N) (k : Fin 1024) (f : Fin 4096) :
    (iblk m c 5 t : FVec Ideal S1024x4096 .bf16) (ix2 k f)
      = (m ((c : Thread nD τ).loc main_arg5) : FVec Ideal S1024x4096 .f32) (ix2 k f) := by
  blk_simp [iblk]
  entry_read
  pointwise []
  blk_ext [idx t]

/-- The down projection's block is the argument. -/
theorem down_weights (c : Dev nD) (t : Fin cfg0.N) (f : Fin 4096) (j : Fin 1024) :
    (iblk m c 6 t : FVec Ideal S4096x1024 .bf16) (ix2 f j)
      = (m ((c : Thread nD τ).loc main_arg6) : FVec Ideal S4096x1024 .f32) (ix2 f j) := by
  blk_simp [iblk]
  entry_read
  pointwise []
  blk_ext [idx t]

/-- The reference's result over the kernel's arguments. -/
def REF (c : Dev nD) : FVec Ideal S32768x1024 .f32 :=
  Cert.ReferenceIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Block row `r` at point `t` is token `1024 t + r`: what the point leaves there is the reference's element. -/
theorem outs_eq (c : Dev nD) (t : Fin cfg0.N) (ht : t.val < 32) (r j : Fin 1024) :
    outsAt0 m c t (ix2 r j) = REF m c (ix2 ⟨1024 * t.val + r.val, by omega⟩ j) := by
  rw [Block.outs_apply]
  unfold REF
  rw [Cert.ReferenceIdeal.Value.token_apply]
  simp only [tokens_at m c t _ _ ht, out_weights, scales, up_weights, down_weights]
  have e : Block.mixedRow (iblk m c 1 t) (iblk m c 2 t) r
      = Cert.ReferenceIdeal.Value.mixedRow (m ((c : Thread nD τ).loc main_arg1)) (m ((c : Thread nD τ).loc main_arg2))
          ⟨(1024 * t.val + r.val) / 8192, by omega⟩ ⟨(1024 * t.val + r.val) % 8192, by omega⟩ := by
    funext k
    unfold Block.mixedRow Cert.ReferenceIdeal.Value.mixedRow
    split
    · exact pool_at m c t r _ ht
    · rename_i h
      refine (attn_at m c t _ _ _ ht).trans (congrArg (m ((c : Thread nD τ).loc main_arg2) : FVec Ideal S4x8192x512 .f32)
        (funext fun a => Fin.ext ?_))
      match a with
      | ⟨0, _⟩ => show (1024 * t.val + 16 * (r.val / 16) + (r.val % 16 * 128 + (k.val - 512) % 128) / 128) / 8192 = (1024 * t.val + r.val) / 8192; omega
      | ⟨1, _⟩ => show (1024 * t.val + 16 * (r.val / 16) + (r.val % 16 * 128 + (k.val - 512) % 128) / 128) % 8192 = (1024 * t.val + r.val) % 8192; omega
      | ⟨2, _⟩ => show (k.val - 512) / 128 * 128 + (r.val % 16 * 128 + (k.val - 512) % 128) % 128 = k.val - 512; omega
  rw [e]

/-- The result array after the run is the reference's. -/
theorem final (c : Dev nD) : (dats m 0 c).arrAt 7 cfg0.N = REF m c := by
  refine (dats m 0 c).arrAt_eq_of_covers 7 _ (by decide +kernel) fun t _ y => ?_
  have ht := (idx t).2.2.2.2.2.2.2.2
  blk_simp
  rw [after0_7]
  idx_vars y
  rw [outs_eq m c t ht]
  refine congrArg (REF m c) ?_
  blk_ext [idx t]

end Cert.KernelIdeal.Array

end
-- ==== Proof.Bias.lean ====
/- The relative-position bias of one dilated window, on numbers: which row of the bias table a query and a key take. -/
module

public import Idealize.ShloMosaic.Lib.Pointwise

@[expose] public section

noncomputable section

namespace Cert.Bias

open Idealize.ShloMosaic

/-- What stands for minus infinity in both programs. -/
abbrev masked : EReal := Scalar.ofBits (F := Ideal) .f32 0xF149F2CA#32

/-- The last of the rows below `n` whose number is the word, or the masked value where there is none. -/
def picked (w : BitVec 32) (r : Fin 32 → EReal) : ℕ → EReal
  | 0 => masked
  | n + 1 => if w = BitVec.ofNat 32 n then r (Fin.ofNat 32 n) else picked w r n

/-- A word that is no row's number picks the masked value. -/
theorem picked_none (w : BitVec 32) (r : Fin 32 → EReal) (n : ℕ) (h : ∀ k < n, w ≠ BitVec.ofNat 32 k) : picked w r n = masked := by
  induction n with
  | zero => rfl
  | succ n ih => exact (if_neg (h n n.lt_succ_self)).trans (ih fun k hk => h k (Nat.lt_succ_of_lt hk))

/-- A row's number picks that row. -/
theorem picked_row (r : Fin 32 → EReal) (b : Fin 32) (n : ℕ) (hb : b.val < n) (hn : n ≤ 32) :
    picked (BitVec.ofNat 32 b.val) r n = r b := by
  induction n with
  | zero => exact absurd hb (Nat.not_lt_zero _)
  | succ n ih =>
    unfold picked
    by_cases e : b.val = n
    · rw [if_pos (by rw [e])]
      exact congrArg r (Fin.ext (by rw [← e]; exact Nat.mod_eq_of_lt b.isLt))
    · rw [if_neg fun h => e ?_, ih (by omega) (by omega)]
      have h' := congrArg BitVec.toNat h
      rw [BitVec.toNat_ofNat, BitVec.toNat_ofNat, Nat.mod_eq_of_lt (by omega), Nat.mod_eq_of_lt (by omega)] at h'
      exact h'

/-- How many residues the call's order sets apart for a pattern: sixteen over its dilation. -/
def apart : Fin 3 → ℕ := ![16, 4, 1]

/-- A pattern's dilation. -/
def dilation : Fin 3 → ℕ := ![1, 4, 16]

/-- The step at a position of the call's order, the block before counted first. -/
def step (p : Fin 3) (i : ℕ) : ℕ :=
  i / 128 * 128 + i % 128 % (128 / apart p) * apart p + i % 128 / (128 / apart p)

/-- The number of the bias row for a distance in tokens. -/
def row (tok : ℕ) : ℕ := if tok < 16 then tok else 16 + min 15 (Nat.log2 (tok ^ 16 / 16 ^ 16) / 7)

/-- The bias row of a query and a key of a pattern, or none where the key is outside the window. -/
def rowOf (p : Fin 3) (q k : ℕ) : Option ℕ :=
  if step p k ≤ step p q + 128 ∧ step p q ≤ step p k then some (row ((step p q + 128 - step p k) * dilation p)) else none

/-- The bias row as a word, minus one where there is none. -/
def word (p : Fin 3) (q k : ℕ) : BitVec 32 :=
  match rowOf p q k with
  | none => -1#32
  | some b => BitVec.ofNat 32 b

/-- What a pattern adds to a score: the row's entry of the head, the masked value outside the window, and in a
    sequence's first block the masked value for every key of the block before. -/
def entry (rel : Fin 32 → Fin 8 → EReal) (p : Fin 3) (first : Bool) (h : Fin 8) (q k : ℕ) : EReal :=
  match rowOf p q k with
  | none => masked
  | some b => if first ∧ k < 128 then masked else rel (Fin.ofNat 32 b) h

end Cert.Bias

end
-- ==== Proof.BiasTable.lean ====
/- What the two constant tables of the bias call hold of one pattern. -/
module

public import proofs.«01_k».proof.Kernel2Ideal
public import proofs.«01_k».proof.Proof.Bias

@[expose] public section

set_option maxRecDepth 65536

noncomputable section

namespace Cert.Bias

open Cert.Kernel2Ideal

/-- Whether a test holds of every number below a bound, as a value to compute. -/
def below (f : ℕ → Bool) (n : ℕ) : Bool := Nat.rec true (fun k b => f k && b) n

/-- The computed test says what it is named for. -/
theorem of_below {f : ℕ → Bool} {n : ℕ} (h : below f n = true) : ∀ k < n, f k = true := by
  induction n with
  | zero => exact fun k hk => absurd hk (Nat.not_lt_zero k)
  | succ n ih =>
    have h' : (f n && below f n) = true := h
    rw [Bool.and_eq_true] at h'
    intro k hk
    by_cases e : k = n
    · rw [e]; exact h'.1
    · exact ih h'.2 k (by omega)

/-- The first constant table's words: the bias rows. -/
@[irreducible] def rowWord (n : ℕ) : BitVec 32 := lit0t n

/-- The second constant table's words: whether a key is in the block before. -/
@[irreducible] def markWord (n : ℕ) : BitVec 32 := lit1t n

/-- Whether the tables of a pattern hold the bias row of a query and a key, and whether the key is in the block before. -/
def agrees (p : Fin 3) (q k : ℕ) : Bool :=
  Nat.beq (rowWord (p.val * 32768 + q * 256 + k)).toNat (word p q k).toNat
    && Nat.beq (markWord (p.val * 32768 + q * 256 + k)).toNat (1 - k / 128)

/-- What a tested place of the two constant tables holds. -/
theorem of_agrees {p : Fin 3} {q k : ℕ} (h : agrees p q k = true) :
    rowWord (p.val * 32768 + q * 256 + k) = word p q k ∧ (markWord (p.val * 32768 + q * 256 + k)).toNat = 1 - k / 128 := by
  unfold agrees at h
  rw [Bool.and_eq_true] at h
  exact ⟨BitVec.eq_of_toNat_eq (Nat.eq_of_beq_eq_true h.1), Nat.eq_of_beq_eq_true h.2⟩

/-- The same of sixteen queries and all their keys. -/
@[irreducible] def agree (p : Fin 3) (c : ℕ) : Bool := below (fun q => below (agrees p (16 * c + q)) 256) 16

/-- A tested pattern holds what it should at every query and key. -/
theorem of_agree {p : Fin 3} (h0 : agree p 0 = true) (h1 : agree p 1 = true) (h2 : agree p 2 = true) (h3 : agree p 3 = true)
    (h4 : agree p 4 = true) (h5 : agree p 5 = true) (h6 : agree p 6 = true) (h7 : agree p 7 = true) (q : Fin 128) (k : Fin 256) :
    agrees p q.val k.val = true := by
  have h : ∀ c < 8, agree p c = true := by
    intro c hc
    match c, hc with
    | 0, _ => exact h0
    | 1, _ => exact h1
    | 2, _ => exact h2
    | 3, _ => exact h3
    | 4, _ => exact h4
    | 5, _ => exact h5
    | 6, _ => exact h6
    | 7, _ => exact h7
  have hq := h (q.val / 16) (by omega)
  unfold agree at hq
  have e := of_below (of_below hq (q.val % 16) (by omega)) k.val k.isLt
  rwa [show 16 * (q.val / 16) + q.val % 16 = q.val by omega] at e

end Cert.Bias

end
-- ==== Proof.BiasTable0.lean ====
/- The constant tables of the bias call at the pattern of dilation one, sixteen queries at a time. -/
module

public import proofs.«01_k».proof.Proof.BiasTable

@[expose] public section

set_option maxRecDepth 65536

namespace Cert.Bias

theorem agree0_0 : agree 0 0 = true := by decide +kernel
theorem agree0_1 : agree 0 1 = true := by decide +kernel
theorem agree0_2 : agree 0 2 = true := by decide +kernel
theorem agree0_3 : agree 0 3 = true := by decide +kernel
theorem agree0_4 : agree 0 4 = true := by decide +kernel
theorem agree0_5 : agree 0 5 = true := by decide +kernel
theorem agree0_6 : agree 0 6 = true := by decide +kernel
theorem agree0_7 : agree 0 7 = true := by decide +kernel

/-- The tables of the pattern of dilation one hold what they should. -/
theorem table0 (q : Fin 128) (k : Fin 256) : agrees 0 q.val k.val = true :=
  of_agree agree0_0 agree0_1 agree0_2 agree0_3 agree0_4 agree0_5 agree0_6 agree0_7 q k

end Cert.Bias

end
-- ==== Proof.BiasTable1.lean ====
/- The constant tables of the bias call at the pattern of dilation four, sixteen queries at a time. -/
module

public import proofs.«01_k».proof.Proof.BiasTable

@[expose] public section

set_option maxRecDepth 65536

namespace Cert.Bias

theorem agree1_0 : agree 1 0 = true := by decide +kernel
theorem agree1_1 : agree 1 1 = true := by decide +kernel
theorem agree1_2 : agree 1 2 = true := by decide +kernel
theorem agree1_3 : agree 1 3 = true := by decide +kernel
theorem agree1_4 : agree 1 4 = true := by decide +kernel
theorem agree1_5 : agree 1 5 = true := by decide +kernel
theorem agree1_6 : agree 1 6 = true := by decide +kernel
theorem agree1_7 : agree 1 7 = true := by decide +kernel

/-- The tables of the pattern of dilation four hold what they should. -/
theorem table1 (q : Fin 128) (k : Fin 256) : agrees 1 q.val k.val = true :=
  of_agree agree1_0 agree1_1 agree1_2 agree1_3 agree1_4 agree1_5 agree1_6 agree1_7 q k

end Cert.Bias

end
-- ==== Proof.BiasTable2.lean ====
/- The constant tables of the bias call at the pattern of dilation sixteen, sixteen queries at a time. -/
module

public import proofs.«01_k».proof.Proof.BiasTable

@[expose] public section

set_option maxRecDepth 65536

namespace Cert.Bias

theorem agree2_0 : agree 2 0 = true := by decide +kernel
theorem agree2_1 : agree 2 1 = true := by decide +kernel
theorem agree2_2 : agree 2 2 = true := by decide +kernel
theorem agree2_3 : agree 2 3 = true := by decide +kernel
theorem agree2_4 : agree 2 4 = true := by decide +kernel
theorem agree2_5 : agree 2 5 = true := by decide +kernel
theorem agree2_6 : agree 2 6 = true := by decide +kernel
theorem agree2_7 : agree 2 7 = true := by decide +kernel

/-- The tables of the pattern of dilation sixteen hold what they should. -/
theorem table2 (q : Fin 128) (k : Fin 256) : agrees 2 q.val k.val = true :=
  of_agree agree2_0 agree2_1 agree2_2 agree2_3 agree2_4 agree2_5 agree2_6 agree2_7 q k

end Cert.Bias

end
-- ==== Proof.BiasBlock.lean ====
/- The block one grid point of the bias kernel writes, read at an index. -/
module

public import proofs.«01_k».proof.Proof.Gen.Kernel2Ideal.Value
public import proofs.«01_k».proof.Proof.Bias
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Block

open Cert.Kernel2Ideal Cert.Kernel2Ideal.Gen Cert.Bias Idealize.ShloMosaic Idealize.ShloMosaic.TcCoe Idealize.SL.Sem

variable {arg1 : Memref sig .tc .smem S32x8 .f32} (harg1 : arg1.IsWhole)
variable {arg2 : Memref sig .tc .vmem S1x128x256 .i32} (harg2 : arg2.IsWhole)
variable {arg3 : Memref sig .tc .vmem S1x128x256 .i32} (harg3 : arg3.IsWhole)

/-- One entry of the bias table lies inside it. -/
theorem rel_inb (b : Fin 32) (h : Fin 8) : ∀ a, (![b.val, h.val] : Fin 2 → ℕ) a + S1x1.size a ≤ S32x8.size a := by
  revert b h; decide

/-- One scalar load of the bias table. -/
def rel (x0 : FVec Ideal S32x8 .f32) (b : Fin 32) (h : Fin 8) : EReal :=
  View.readAt (Elt Ideal) arg1.view (Rect.unit (s := S32x8) ![b.val, h.val] S1x1.size (rel_inb b h)).toLoadRect (harg1.unread x0)
    (Shape.Idx.first (show 0 < S1x1.numel by decide))

/-- The row numbers, their unit axis dropped. -/
def rows (x1 : IVec S1x128x256 32) : IVec S128x256 32 :=
  k0_pay2 (F := Ideal) (View.readAt (Elt Ideal) arg2.view
    (Rect.unit (s := S1x128x256) ![0, 0, 0] S1x128x256.size inb_S1x128x256_S1x128x256_0_0_0).toLoadRect (harg2.unread x1))

/-- Which keys stand in the block before. -/
def before (x2 : IVec S1x128x256 32) : IVec S128x256 1 :=
  k0_pay3 (F := Ideal) (View.readAt (Elt Ideal) arg3.view
    (Rect.unit (s := S1x128x256) ![0, 0, 0] S1x128x256.size inb_S1x128x256_S1x128x256_0_0_0).toLoadRect (harg3.unread x2))

/-- The selects of the first `n` rows, one over another. -/
def chain (w : IVec S128x256 32) (r : Fin 32 → EReal) : ℕ → FVec Ideal S128x256 .f32
  | 0 => broadcast S128x256 masked
  | n + 1 => select (cmpi .eq w (broadcast S128x256 (BitVec.ofNat 32 n))) (broadcast S128x256 (r (Fin.ofNat 32 n))) (chain w r n)

/-- The block's part that one store writes lies inside it. -/
theorem store_inb (f : Fin 2) (h : Fin 8) :
    ∀ a, (![0, f.val, h.val / 2, h.val % 2 * 128, 0] : Fin 5 → ℕ) a + S1x1x1x128x256.size a ≤ S1x2x4x256x256.size a := by
  revert f h; decide

/-- One store: a head's scores, as read against the block before and its own (`f = 0`) or in a sequence's first block. -/
def store (f : Fin 2) (h : Fin 8) (v : FVec Ideal S128x256 .f32) : View.Piece (Elt Ideal) S1x2x4x256x256 .f32 :=
  ⟨Rect.unit ![0, f.val, h.val / 2, h.val % 2 * 128, 0] S1x1x1x128x256.size (store_inb f h),
    shapeCast S1x1x1x128x256 v shapeCasts_S128x256_S1x1x1x128x256⟩

/-- What the stores of a head take. -/
def scores (x0 : FVec Ideal S32x8 .f32) (x1 x2 : IVec S1x128x256 32) (h : Fin 8) : Fin 2 → FVec Ideal S128x256 .f32
  | 0 => chain (rows harg2 x1) (fun b => rel harg1 x0 b h) 32
  | 1 => select (before harg3 x2) (broadcast S128x256 masked) (chain (rows harg2 x1) (fun b => rel harg1 x0 b h) 32)

/-- The sixteen stores, newest first. -/
def stores (x0 : FVec Ideal S32x8 .f32) (x1 x2 : IVec S1x128x256 32) : List (View.Piece (Elt Ideal) S1x2x4x256x256 .f32) :=
  ([7, 6, 5, 4, 3, 2, 1, 0] : List (Fin 8)).flatMap fun h =>
    ([1, 0] : List (Fin 2)).map fun f => store f h (scores harg1 harg2 harg3 x0 x1 x2 h f)

/-- The stores the body makes are these. -/
theorem stores_are (c : Dev nD) (i : grid0.Coords) (arg4 : Memref sig .tc .vmem S1x2x4x256x256 .f32) (harg4 : arg4.IsWhole)
    (x0 : FVec Ideal S32x8 .f32) (x1 x2 : IVec S1x128x256 32) :
    (kernelRun0_A (F := Ideal) c i arg1 harg1 arg2 harg2 arg3 harg3 arg4 harg4 x0 x1 x2).1 = stores harg1 harg2 harg3 x0 x1 x2 := by
  unfold kernelRun0_A
  sl_unfold_words
  rfl

/-- A scalar load reads its entry. -/
theorem rel_apply (x0 : FVec Ideal S32x8 .f32) (b : Fin 32) (h : Fin 8) : rel harg1 x0 b h = x0 (ix2 b h) := by
  unfold rel
  rw [View.readAt_eq_ld, harg1.read_unread]
  refine View.ld_unit_apply_of _ _ _ _ _ _ fun a => ?_
  match a with
  | ⟨0, _⟩ => rfl
  | ⟨1, _⟩ => rfl

/-- The row number of a query and a key. -/
theorem rows_apply (x1 : IVec S1x128x256 32) (q : Fin 128) (k : Fin 256) : rows harg2 x1 (ix2 q k) = x1 (ix3 0 q k) := by
  unfold rows
  rw [View.readAt_eq_ld, harg2.read_unread, View.ld_unit_lit (S := S1x128x256) _ _ (by decide)]
  pointwise [k0_pay2]

/-- Whether a key stands in the block before. -/
theorem before_apply (x2 : IVec S1x128x256 32) (q : Fin 128) (k : Fin 256) :
    before harg3 x2 (ix2 q k) = Scalar.cmpi .ne (x2 (ix3 0 q k)) 0#32 := by
  unfold before
  rw [View.readAt_eq_ld, harg3.read_unread, View.ld_unit_lit (S := S1x128x256) _ _ (by decide)]
  pointwise [k0_pay3]
  rfl

/-- A comparison for equality is the word one exactly on equal words. -/
theorem eq_word (a b : BitVec 32) : Scalar.cmpi .eq a b = 1 ↔ a = b := by
  show IntOp.cmpi .eq a b = 1 ↔ a = b
  by_cases h : a = b
  · simp [IntOp.cmpi, h]
  · simp [IntOp.cmpi, bne, show (a == b) = false from beq_eq_false_iff_ne.mpr h, h]

/-- A comparison for difference is the word one exactly on different words. -/
theorem ne_word (a b : BitVec 32) : Scalar.cmpi .ne a b = 1 ↔ a ≠ b := by
  show IntOp.cmpi .ne a b = 1 ↔ a ≠ b
  by_cases h : a = b
  · simp [IntOp.cmpi, h]
  · simp [IntOp.cmpi, bne, show (a == b) = false from beq_eq_false_iff_ne.mpr h, h]

/-- The selects pick the row whose number stands at the index. -/
theorem chain_apply (w : IVec S128x256 32) (r : Fin 32 → EReal) (n : ℕ) (i : S128x256.Idx) : chain w r n i = picked (w i) r n := by
  induction n with
  | zero => rfl
  | succ n ih =>
    show Scalar.select (Scalar.cmpi .eq (w i) (BitVec.ofNat 32 n)) (r (Fin.ofNat 32 n)) (chain w r n i) = _
    rw [ih]
    unfold Scalar.select
    by_cases e : w i = BitVec.ofNat 32 n
    · rw [if_pos ((eq_word _ _).mpr e)]; exact (if_pos e).symm
    · rw [if_neg fun h => e ((eq_word _ _).mp h)]; exact (if_neg e).symm

/-- What the blocks give a query and a key of a head: the row picked, or the masked value in a sequence's first block. -/
def score (x0 : FVec Ideal S32x8 .f32) (x1 x2 : IVec S1x128x256 32) (f : Fin 2) (h : Fin 8) (q : Fin 128) (k : Fin 256) : EReal :=
  if f = 1 ∧ x2 (ix3 0 q k) ≠ 0#32 then masked else picked (x1 (ix3 0 q k)) (fun b => x0 (ix2 b h)) 32

/-- What the stores take, at an index. -/
theorem scores_apply (x0 : FVec Ideal S32x8 .f32) (x1 x2 : IVec S1x128x256 32) (h : Fin 8) (f : Fin 2) (q : Fin 128) (k : Fin 256) :
    scores harg1 harg2 harg3 x0 x1 x2 h f (ix2 q k) = score x0 x1 x2 f h q k := by
  have e : chain (rows harg2 x1) (fun b => rel harg1 x0 b h) 32 (ix2 q k) = picked (x1 (ix3 0 q k)) (fun b => x0 (ix2 b h)) 32 := by
    rw [chain_apply, rows_apply]
    exact congrArg (picked _ · 32) (funext fun b => rel_apply harg1 x0 b h)
  unfold score
  match f with
  | 0 => rw [if_neg (by simp)]; exact e
  | 1 =>
    show Scalar.select (before harg3 x2 (ix2 q k)) masked _ = _
    rw [before_apply, e]
    unfold Scalar.select
    by_cases z : x2 (ix3 0 q k) = 0#32
    · rw [if_neg fun h => (ne_word _ _).mp h z, if_neg fun h => h.2 z]
    · rw [if_pos ((ne_word _ _).mpr z), if_pos ⟨rfl, z⟩]

/-- The block's elements: the plane says whether the block is a sequence's first, the pair and the row's half the head. -/
def held (x0 : FVec Ideal S32x8 .f32) (x1 x2 : IVec S1x128x256 32) (y : S1x2x4x256x256.Idx) : Elt Ideal .f32 :=
  score x0 x1 x2 (y 1) ⟨2 * (y 2).val + (y 3).val / 128, by have h2 : (y 2).val < 4 := (y 2).isLt; have h3 : (y 3).val < 256 := (y 3).isLt; omega⟩
    ⟨(y 3).val % 128, by omega⟩ (y 4)

/-- A store writes the block's elements. -/
theorem store_val (x0 : FVec Ideal S32x8 .f32) (x1 x2 : IVec S1x128x256 32) (h : Fin 8) (f : Fin 2) (x : S1x1x1x128x256.Idx) :
    (store f h (scores harg1 harg2 harg3 x0 x1 x2 h f)).2 x = held x0 x1 x2 ((store f h (scores harg1 harg2 harg3 x0 x1 x2 h f)).1.emb x) := by
  have hh := h.isLt
  have x1' : (x 1).val < 1 := (x 1).isLt
  have x2' : (x 2).val < 1 := (x 2).isLt
  have x3' : (x 3).val < 128 := (x 3).isLt
  have x4' : (x 4).val < 256 := (x 4).isLt
  have e : ∀ v : FVec Ideal S128x256 .f32, shapeCast S1x1x1x128x256 v shapeCasts_S128x256_S1x1x1x128x256 x = v (ix2 ⟨(x 3).val, x3'⟩ ⟨(x 4).val, x4'⟩) := by
    intro v
    idx_vars x
    pointwise []
    try (congr 1; ext a; fin_cases a <;> simp)
  refine (e _).trans ((scores_apply harg1 harg2 harg3 x0 x1 x2 h f _ _).trans ?_)
  have c : ∀ (f' : Fin 2) (h' : Fin 8) (q' : Fin 128) (k' : Fin 256), f = f' → h = h' → (x 3).val = q'.val → (x 4).val = k'.val →
      score x0 x1 x2 f h ⟨(x 3).val, x3'⟩ ⟨(x 4).val, x4'⟩ = score x0 x1 x2 f' h' q' k' := by
    intro f' h' q' k' e1 e2 e3 e4
    subst e1 e2
    exact congrArg₂ _ (Fin.ext e3) (Fin.ext e4)
  refine c _ _ _ _ (Fin.ext ?_) (Fin.ext ?_) ?_ ?_
  · show f.val = f.val + 1 * (x 1).val; omega
  · show h.val = 2 * (h.val / 2 + 1 * (x 2).val) + (h.val % 2 * 128 + 1 * (x 3).val) / 128; omega
  · show (x 3).val = (h.val % 2 * 128 + 1 * (x 3).val) % 128; omega
  · show (x 4).val = 0 + 1 * (x 4).val; omega

/-- What the body leaves in its output block, at an index. -/
theorem outs_apply (m : (ℓ : Loc nD τ sig) → Buf (Elt Ideal) ℓ) (c : Dev nD) (t : Fin cfg0.N) (y : S1x2x4x256x256.Idx) :
    outsAt0 m c t y = held (iblk m c 0 t) (iblk m c 1 t) (iblk m c 2 t) y := by
  unfold outsAt0 out0_A_3
  rw [View.read_writes_eq_canon _ _ _ (cover0_A_3 c _ _ _ _ _ _ _ _ _ _ _ _)]
  refine View.canon_apply_of_pieces (held (iblk m c 0 t) (iblk m c 1 t) (iblk m c 2 t)) _ (fun p hp x => ?_) y
    (cover0_A_3 c _ _ _ _ _ _ _ _ _ _ _ _ y)
  rw [stores_are] at hp
  obtain ⟨h, _, hp⟩ := List.mem_flatMap.mp hp
  obtain ⟨f, _, rfl⟩ := List.mem_map.mp hp
  exact store_val _ _ _ _ _ _ h f x

end Cert.Kernel2Ideal.Block

end
-- ==== Proof.BiasRow.lean ====
/- The reference's logarithm names the bias row: the row's number by powers of two is the whole part of the logarithm the reference takes. -/
module

public import proofs.«01_k».proof.Proof.Bias
public import Idealize.ShloMosaic.Lib.Tactic.WordOmega

@[expose] public section

set_option maxRecDepth 16384

noncomputable section

namespace Cert.Bias

open Idealize.ShloMosaic

/-- How many times the distance over sixteen has grown by the sixteenth root of a hundred and twenty-eight. -/
def growth (t : ℕ) : ℕ := Nat.log2 (t ^ 16 / 16 ^ 16) / 7

/-- The reference's divisor, the logarithm of a hundred and twenty-eight as it is rounded. -/
def span : ℝ := 10175445 / 2097152

/-- No distance the windows reach lies so near above a row's first that the rounded divisor could move it. -/
theorem margin : ∀ t < 2049, t < 16 ∨ growth t ≤ 16 ∧ (min 15 (growth t) = 0 ∨ 10001 * (16 ^ 16 * 2 ^ (7 * min 15 (growth t))) ≤ 10000 * t ^ 16) := by
  decide +kernel

/-- The logarithm of two from above, by the exponential's series. -/
theorem log_two_lt : Real.log 2 < 0.6931471824 := by
  rw [Real.log_lt_iff_lt_exp (by norm_num)]
  refine lt_of_lt_of_le ?_ (Real.sum_le_exp_of_nonneg (by norm_num) 14)
  norm_num [Finset.sum_range_succ, Nat.factorial]

/-- The logarithm of two from below, by the exponential's series. -/
theorem lt_log_two : 0.6931471 < Real.log 2 := by
  rw [Real.lt_log_iff_exp_lt (by norm_num)]
  refine lt_of_le_of_lt (Real.exp_bound' (by norm_num) (by norm_num) (n := 12) (by norm_num)) ?_
  norm_num [Finset.sum_range_succ, Nat.factorial]

/-- The divisor is just above seven times the logarithm of two. -/
theorem span_near : 7 * Real.log 2 ≤ span ∧ span ≤ 7 * Real.log 2 + 0.000001 := by
  have h1 := lt_log_two
  have h2 := log_two_lt
  unfold span
  constructor <;> norm_num at * <;> linarith

/-- The whole part of the reference's logarithm, where it is cut at fifteen, is the row's. -/
theorem floor_growth (t : ℕ) (h16 : 16 ≤ t) (ht : t < 2049) :
    min 15 ⌊Real.log (t / 16) / span * 16⌋ = ((min 15 (growth t) : ℕ) : ℤ) ∧ 0 ≤ Real.log (t / 16) / span * 16
      ∧ ⌊Real.log (t / 16) / span * 16⌋ ≤ 16 := by
  obtain ⟨hs1, hs2⟩ := span_near
  have hs : 0 < span := by unfold span; norm_num
  have tR : (16 : ℝ) ≤ t := by exact_mod_cast h16
  have t0 : (0 : ℝ) < t := by linarith
  have hx0 : 0 ≤ Real.log (t / 16) / span * 16 :=
    mul_nonneg (div_nonneg (Real.log_nonneg (by rw [le_div_iff₀ (by norm_num)]; linarith)) hs.le) (by norm_num)
  have hy : Real.log (t / 16) / span * 16 = Real.log ((t : ℝ) ^ 16 / 16 ^ 16) / span := by
    rw [← div_pow, Real.log_pow]; push_cast; ring
  have hm := (margin t ht).resolve_left (by omega)
  have hT : t ^ 16 / 16 ^ 16 < 2 ^ (7 * (growth t + 1)) :=
    lt_of_lt_of_le Nat.lt_log2_self (Nat.pow_le_pow_right (by decide) (by unfold growth; omega))
  have hU : t ^ 16 < 2 ^ (7 * (growth t + 1)) * 16 ^ 16 := (Nat.div_lt_iff_lt_mul (by positivity)).mp hT
  have hU' : (t : ℝ) ^ 16 / 16 ^ 16 < 2 ^ (7 * (growth t + 1)) := by
    rw [div_lt_iff₀ (by positivity)]; exact_mod_cast hU
  have hup : Real.log (t / 16) / span * 16 < (growth t : ℝ) + 1 := by
    rw [hy, div_lt_iff₀ hs]
    refine lt_of_lt_of_le (Real.log_lt_log (by positivity) hU') ?_
    rw [Real.log_pow]
    push_cast
    have : (0 : ℝ) ≤ (growth t : ℝ) + 1 := by positivity
    nlinarith
  have hlo : ((min 15 (growth t) : ℕ) : ℝ) ≤ Real.log (t / 16) / span * 16 := by
    rcases hm.2 with h0 | h1
    · rw [h0]; simpa using hx0
    · rw [hy, le_div_iff₀ hs]
      generalize hB : min 15 (growth t) = B at h1 ⊢
      have hB15 : (B : ℝ) ≤ 15 := by exact_mod_cast (hB ▸ min_le_left _ _ : B ≤ 15)
      have hB0 : (0 : ℝ) ≤ B := by positivity
      have h1' : (1.0001 : ℝ) * 2 ^ (7 * B) ≤ (t : ℝ) ^ 16 / 16 ^ 16 := by
        rw [le_div_iff₀ (by positivity)]
        have : (10001 : ℝ) * (16 ^ 16 * 2 ^ (7 * B)) ≤ 10000 * (t : ℝ) ^ 16 := by exact_mod_cast h1
        linarith
      refine le_trans ?_ (Real.log_le_log (by positivity) h1')
      rw [Real.log_mul (by norm_num) (by positivity), Real.log_pow]
      have hl : (0.00005 : ℝ) ≤ Real.log 1.0001 := by
        refine le_trans ?_ (Real.one_sub_inv_le_log_of_pos (by norm_num))
        norm_num
      push_cast
      nlinarith
  have f1 : ⌊Real.log (t / 16) / span * 16⌋ ≤ (growth t : ℤ) := by
    rw [← Int.lt_add_one_iff, Int.floor_lt]; exact_mod_cast hup
  have f2 : ((min 15 (growth t) : ℕ) : ℤ) ≤ ⌊Real.log (t / 16) / span * 16⌋ := by
    rw [Int.le_floor]; exact_mod_cast hlo
  refine ⟨?_, hx0, by omega⟩
  omega

/-- The reference's sixteen. -/
theorem sixteen : FloatOps.ofBits (F := Ideal) .f32 0x41800000#32 = ((16 : ℝ) : EReal) := by
  simp [Ideal.ofBits, Ideal.ieee, -EReal.coe_mul]; norm_num

/-- The reference's divisor. -/
theorem divisor : FloatOps.ofBits (F := Ideal) .f32 0x409B43D5#32 = (span : EReal) := by
  unfold span
  simp [Ideal.ofBits, Ideal.ieee, -EReal.coe_mul]; norm_num

/-- A small number's word, read signed. -/
theorem word_toInt (a : ℕ) (ha : a < 2 ^ 31) : (BitVec.ofNat 32 a).toInt = a := by
  rw [BitVec.toInt_eq_toNat_of_lt (by rw [BitVec.toNat_ofNat]; omega), BitVec.toNat_ofNat, Nat.mod_eq_of_lt (by omega)]

/-- The larger of two small numbers' words. -/
theorem max_word (a b : ℕ) (ha : a < 2 ^ 31) (hb : b < 2 ^ 31) : IntOp.maxsi (BitVec.ofNat 32 a) (BitVec.ofNat 32 b) = BitVec.ofNat 32 (max a b) := by
  unfold IntOp.maxsi BitVec.slt
  rw [word_toInt a ha, word_toInt b hb]
  rcases lt_or_ge b a with h | h
  · rw [if_pos (by simpa using h), max_eq_left h.le]
  · rw [if_neg (by simpa using h), max_eq_right h]

/-- The smaller of two small numbers' words. -/
theorem min_word (a b : ℕ) (ha : a < 2 ^ 31) (hb : b < 2 ^ 31) : IntOp.minsi (BitVec.ofNat 32 a) (BitVec.ofNat 32 b) = BitVec.ofNat 32 (min a b) := by
  unfold IntOp.minsi BitVec.slt
  rw [word_toInt a ha, word_toInt b hb]
  rcases lt_or_ge a b with h | h
  · rw [if_pos (by simpa using h), min_eq_left h.le]
  · rw [if_neg (by simpa using h), min_eq_right h]

/-- The reference's logarithm of a distance, cut to a whole number. -/
def large (w : BitVec 32) : BitVec 32 :=
  FloatOps.fptosi (F := Ideal) (φ := .f32) 32 (FloatOps.mulf (FloatOps.hostDivf (FloatOps.hostUnary .log
    (FloatOps.hostDivf (FloatOps.sitofp (F := Ideal) .f32 w) (FloatOps.ofBits .f32 0x41800000#32))) (FloatOps.ofBits .f32 0x409B43D5#32))
    (FloatOps.ofBits .f32 0x41800000#32))

/-- It is the whole part of the real logarithm. -/
theorem large_eq (t : ℕ) (h16 : 16 ≤ t) (ht : t < 2049) :
    large (BitVec.ofNat 32 t) = BitVec.ofInt 32 ⌊Real.log (t / 16) / span * 16⌋ := by
  obtain ⟨_, h0, h1⟩ := floor_growth t h16 ht
  have hs : span ≠ 0 := by unfold span; norm_num
  have tR : (16 : ℝ) ≤ t := by exact_mod_cast h16
  have ti := word_toInt t (by omega)
  unfold large
  rw [sixteen, divisor]
  have e1 : FloatOps.hostDivf (F := Ideal) (φ := .f32) (FloatOps.sitofp (F := Ideal) .f32 (BitVec.ofNat 32 t)) ((16 : ℝ) : EReal)
      = ((t / 16 : ℝ) : EReal) := by
    show Ideal.div (((BitVec.ofNat 32 t).toInt : ℝ) : EReal) ((16 : ℝ) : EReal) = _
    rw [Ideal.div_coe (by norm_num), ti, ← EReal.coe_mul]
    congr 1
    push_cast; ring
  rw [e1]
  have e2 : FloatOps.hostUnary (F := Ideal) (φ := .f32) .log ((t / 16 : ℝ) : EReal) = ((Real.log (t / 16) : ℝ) : EReal) := by
    rw [Ideal.hostUnary_log_def, Ideal.log_coe, if_neg (not_le.mpr (by positivity))]
  rw [e2]
  have e3 : FloatOps.mulf (F := Ideal) (φ := .f32) (FloatOps.hostDivf (F := Ideal) (φ := .f32) ((Real.log (t / 16) : ℝ) : EReal) (span : EReal))
      ((16 : ℝ) : EReal) = ((Real.log (t / 16) / span * 16 : ℝ) : EReal) := by
    show Ideal.div _ _ * _ = _
    rw [Ideal.div_coe hs, ← EReal.coe_mul, ← EReal.coe_mul]
    congr 1
    ring
  rw [e3]
  show Ideal.fptosi 32 _ = _
  unfold Ideal.fptosi
  rw [Ideal.toIntClamped_coe, if_pos h0]
  have := Int.floor_nonneg.mpr h0
  congr 1
  norm_num
  omega

/-- The reference's bias row of a distance, as the word it reads the table at. -/
def bucket (w : BitVec 32) : BitVec 32 :=
  Scalar.select (IntOp.cmpi .slt w 16#32) w (IntOp.minsi (IntOp.addi 16#32 (large (IntOp.maxsi w 1#32))) 31#32)

/-- It is the row's number. -/
theorem bucket_eq (t : ℕ) (ht : t < 2049) : bucket (BitVec.ofNat 32 t) = BitVec.ofNat 32 (row t) := by
  unfold bucket row
  by_cases h : t < 16
  · rw [if_pos h]
    generalize large _ = l
    word_omega
  · rw [if_neg h]
    have e : IntOp.maxsi (BitVec.ofNat 32 t) 1#32 = BitVec.ofNat 32 t :=
      (max_word t 1 (by omega) (by omega)).trans (by rw [max_eq_left (by omega)])
    rw [e, large_eq t (by omega) ht]
    obtain ⟨h2, h0, h1⟩ := floor_growth t (by omega) ht
    have := Int.floor_nonneg.mpr h0
    generalize ⌊Real.log (t / 16) / span * 16⌋ = n at *
    obtain ⟨k, rfl⟩ := Int.eq_ofNat_of_zero_le this
    rw [BitVec.ofInt_natCast]
    show _ = BitVec.ofNat 32 (16 + min 15 (growth t))
    generalize growth t = g at *
    have e2 : min (16 + k) 31 = 16 + min 15 g := by omega
    have e3 : IntOp.addi 16#32 (BitVec.ofNat 32 k) = BitVec.ofNat 32 (16 + k) := (BitVec.ofNat_add 16 k).symm
    rw [e3, min_word (16 + k) 31 (by omega) (by omega), e2]
    generalize BitVec.ofNat 32 (16 + min 15 g) = r
    word_omega

end Cert.Bias

end
-- ==== Proof.BiasReference.lean ====
/- The reference of the bias call, read at an index. -/
module

public import proofs.«01_k».proof.Proof.Gen.Reference2Ideal.Read
public import proofs.«01_k».proof.Proof.BiasRow

@[expose] public section

set_option maxRecDepth 16384

noncomputable section

namespace Cert.Reference2Ideal.Value

open Cert.Reference2Ideal Cert.Reference2Ideal.Gen Cert.Reference2Ideal.Read Cert.Bias Idealize.ShloMosaic Idealize.ShloMosaic.TcCoe
  Idealize.SL.Sem Idealize.ShloMosaic.StableHlo

/-- The queries' steps, at an index. -/
theorem query_apply (p : Fin 3) (q : Fin 128) : val_main_v15 (F := Ideal) (ix2 p q) = BitVec.ofNat 32 (step p q.val) := by
  have hq := q.isLt
  match p with
  | 0 =>
    pointwise [val_main_v15, val_main_v12, val_main_v3, val_main_v2, val_main_v1, val_main_v0]
    exact congrArg (BitVec.ofNat 32) (by simp [step, apart]; omega)
  | 1 =>
    pointwise [val_main_v15, val_main_v13, val_main_v7, val_main_v6, val_main_v5, val_main_v4]
    exact congrArg (BitVec.ofNat 32) (by simp [step, apart]; omega)
  | 2 =>
    pointwise [val_main_v15, val_main_v14, val_main_v11, val_main_v10, val_main_v9, val_main_v8]
    try exact congrArg (BitVec.ofNat 32) (by simp [step, apart]; omega)

/-- The keys' steps, at an index. -/
theorem key_apply (p : Fin 3) (k : Fin 256) : val_main_v32 (F := Ideal) (ix2 p k) = BitVec.ofNat 32 (step p k.val) := by
  have hk := k.isLt
  match p with
  | 0 =>
    pointwise [val_main_v32, val_main_v29, val_main_v20, val_main_v19, val_main_v18, val_main_v17]
    exact congrArg (BitVec.ofNat 32) (by simp [step, apart]; omega)
  | 1 =>
    pointwise [val_main_v32, val_main_v30, val_main_v24, val_main_v23, val_main_v22, val_main_v21]
    exact congrArg (BitVec.ofNat 32) (by simp [step, apart]; omega)
  | 2 =>
    pointwise [val_main_v32, val_main_v31, val_main_v28, val_main_v27, val_main_v26, val_main_v25]
    try exact congrArg (BitVec.ofNat 32) (by simp [step, apart]; omega)

/-- The dilations, at an index. -/
theorem dilation_apply (p : Fin 3) : val_main_v40 (F := Ideal) (ix3 p 0 0) = BitVec.ofNat 32 (dilation p) := by
  match p with
  | 0 => pointwise [val_main_v40, val_main_v37, val_main_v34, val_main_c]; rfl
  | 1 => pointwise [val_main_v40, val_main_v38, val_main_v35, val_main_c_0]; rfl
  | 2 => pointwise [val_main_v40, val_main_v39, val_main_v36, val_main_c_1]; rfl

/-- The distance in steps, at an index. -/
theorem distance_apply (p : Fin 3) (q : Fin 128) (k : Fin 256) :
    val_main_v45 (F := Ideal) (ix3 p q k)
      = IntOp.subi (IntOp.addi (BitVec.ofNat 32 (step p q.val)) 128#32) (BitVec.ofNat 32 (step p k.val)) := by
  rw [← query_apply, ← key_apply]
  unfold val_main_v45 val_main_v44 val_main_v43 val_main_v42 val_main_v33 val_main_v16
  generalize val_main_v15 (F := Ideal) = Q
  generalize val_main_v32 (F := Ideal) = K
  pointwise [val_main_v41, val_main_c_2]

/-- A step of a block and the block before is one of two hundred and fifty-six. -/
theorem step_lt : ∀ (p : Fin 3) (k : Fin 256), step p k.val < 256 := by decide +kernel

/-- A query's step is one of its block's. -/
theorem query_lt : ∀ (p : Fin 3) (q : Fin 128), step p q.val < 128 := by decide +kernel

/-- Whether a key is in the window, at an index. -/
theorem window_apply (p : Fin 3) (q : Fin 128) (k : Fin 256) :
    val_main_v50 (F := Ideal) (ix3 p q k) = 1#1 ↔ step p k.val ≤ step p q.val + 128 ∧ step p q.val ≤ step p k.val := by
  have hk := step_lt p k
  have hq := query_lt p q
  rw [val_main_v50_apply, val_main_v47_apply, val_main_v49_apply, distance_apply, val_main_v46_apply, val_main_v48_apply,
    val_main_c_3_apply, val_main_c_4_apply]
  generalize step p k.val = a at *
  generalize step p q.val = b at *
  by_cases h : a ≤ b + 128
  · rw [show IntOp.subi (IntOp.addi (BitVec.ofNat 32 b) 128#32) (BitVec.ofNat 32 a) = BitVec.ofNat 32 (b + 128 - a) by
      unfold IntOp.subi; word_omega]
    generalize hn : b + 128 - a = n
    have : n < 256 := by omega
    word_omega
  · have e : IntOp.subi (IntOp.addi (BitVec.ofNat 32 b) 128#32) (BitVec.ofNat 32 a) = BitVec.ofNat 32 (4294967296 + b + 128 - a) := by
      refine BitVec.eq_of_toNat_eq ?_
      show (BitVec.ofNat 32 b + 128#32 - BitVec.ofNat 32 a).toNat = _
      rw [BitVec.toNat_sub, BitVec.toNat_add, BitVec.toNat_ofNat, BitVec.toNat_ofNat, BitVec.toNat_ofNat, BitVec.toNat_ofNat]
      omega
    rw [e]
    generalize hn : 4294967296 + b + 128 - a = n
    have : 4294967296 - 256 < n ∧ n < 4294967296 := by omega
    have hc : ¬(a ≤ b + 128 ∧ b ≤ a) := fun z => h z.1
    word_omega

/-- The distance in tokens of a key in the window, at an index. -/
theorem tokens_apply (p : Fin 3) (q : Fin 128) (k : Fin 256) (h : step p k.val ≤ step p q.val + 128 ∧ step p q.val ≤ step p k.val) :
    val_main_v54 (F := Ideal) (ix3 p q k) = BitVec.ofNat 32 ((step p q.val + 128 - step p k.val) * dilation p) := by
  have hk := step_lt p k
  have hq := query_lt p q
  have e : val_main_v53 (F := Ideal) (ix3 p q k) = BitVec.ofNat 32 (dilation p) := by
    rw [← dilation_apply]
    unfold val_main_v53 val_main_v52
    generalize val_main_v40 (F := Ideal) = D
    pointwise []
    rfl
  have e2 : IntOp.subi (IntOp.addi (BitVec.ofNat 32 (step p q.val)) 128#32) (BitVec.ofNat 32 (step p k.val))
      = BitVec.ofNat 32 (step p q.val + 128 - step p k.val) := by
    generalize step p k.val = a at *
    generalize step p q.val = b at *
    unfold IntOp.subi
    word_omega
  have e3 : val_main_v51 (F := Ideal) (ix3 p q k) = BitVec.ofNat 32 (step p q.val + 128 - step p k.val) := by
    rw [val_main_v51_apply, val_main_call0_v2_apply, val_main_call0_v1_apply, val_main_call0_v0_apply, val_main_c_5_apply,
      val_main_call0_v4_apply, val_main_call0_v3_apply, val_main_c_6_apply, distance_apply, e2]
    refine (congrArg (IntOp.minsi _) (max_word 0 _ (by omega) (by omega))).trans ((min_word 128 _ (by omega) (by omega)).trans ?_)
    exact congrArg (BitVec.ofNat 32) (by omega)
  rw [val_main_v54_apply, e, e3]
  exact (BitVec.ofNat_mul _ _).symm

/-- The bias row the reference reads for a key in the window, at an index. -/
theorem row_apply (p : Fin 3) (q : Fin 128) (k : Fin 256) (h : step p k.val ≤ step p q.val + 128 ∧ step p q.val ≤ step p k.val) :
    val_main_v77 (F := Ideal) (ix3 p q k) = BitVec.ofNat 32 (row ((step p q.val + 128 - step p k.val) * dilation p)) := by
  have hd : ∀ p, dilation p ≤ 16 := by decide
  have hn : (step p q.val + 128 - step p k.val) * dilation p < 2049 :=
    lt_of_le_of_lt (Nat.mul_le_mul (by omega : _ ≤ 128) (hd p)) (by decide)
  have e : val_main_v72 (F := Ideal) (ix3 p q k) = bucket (val_main_v54 (F := Ideal) (ix3 p q k)) := rfl
  have hr : row ((step p q.val + 128 - step p k.val) * dilation p) < 32 := by unfold row; split <;> omega
  rw [val_main_v77_apply, val_main_v74_apply, val_main_v76_apply, e, tokens_apply p q k h, bucket_eq _ hn, val_main_v73_apply,
    val_main_c_13_apply]
  generalize row _ = r at *
  generalize IntOp.addi _ _ = z
  word_omega

variable (x0 : FVec Ideal S32x8 .f32)

/-- The gather reads the table's row named by its index word, at an index. -/
theorem gather_apply (p : Fin 3) (q : Fin 128) (k : Fin 256) (h : Fin 8) (b : Fin 32)
    (hb : val_main_v77 (F := Ideal) (ix3 p q k) = BitVec.ofNat 32 b.val) : val_main_v79 (F := Ideal) x0 (ix4 p q k h) = x0 (ix2 b h) := by
  have hi : val_main_v78 (F := Ideal) (ix4 p q k 0) = BitVec.ofNat 32 b.val := by
    rw [← hb]
    unfold val_main_v78
    generalize val_main_v77 (F := Ideal) = B
    pointwise []
  have hB : (val_main_v78 (F := Ideal) (ix4 p q k 0)).toInt.toNat = b.val := by
    rw [hi, word_toInt _ (lt_trans b.isLt (by decide))]
    rfl
  unfold val_main_v79
  clear hi hb
  generalize val_main_v78 (F := Ideal) = B at hB
  generalize hD : gather_S32x8_S3x128x256x1_S3x128x256x8_3_0_n_n_0_3_18 = D
  unfold Host.gather
  refine congrArg x0 (funext fun a => Fin.ext ?_)
  show D.start (ix4 p q k h) B a + D.batchCoord (ix4 p q k h) a + D.offCoord (ix4 p q k h) a = (ix2 b h a).val
  subst hD
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x8_S3x128x256x1_S3x128x256x8_3_0_n_n_0_3_18.startIndexMap from List.mem_singleton.mpr rfl)]
    have hsi : gather_S32x8_S3x128x256x1_S3x128x256x8_3_0_n_n_0_3_18.siIdx (ix4 p q k h) ⟨List.idxOf (0 : Fin 2) [(0 : Fin 2)],
        List.idxOf_lt_length_iff.2 (List.mem_singleton.mpr rfl)⟩ = ix4 p q k 0 := by
      funext c; refine Fin.ext ?_
      match c with
      | ⟨0, _⟩ => rfl
      | ⟨1, _⟩ => rfl
      | ⟨2, _⟩ => rfl
      | ⟨3, _⟩ => rfl
    refine (congrArg (fun z => min (B z).toInt.toNat 31) hsi).trans ?_
    show min (B (ix4 p q k 0)).toInt.toNat 31 = b.val
    rw [hB]
    omega
  · unfold GatherDims.start
    rw [dif_neg (show (1 : Fin 2) ∉ gather_S32x8_S3x128x256x1_S3x128x256x8_3_0_n_n_0_3_18.startIndexMap from (by decide : (1 : Fin 2) ∉ [(0 : Fin 2)])), Nat.zero_add]
    rfl

/-- A key is of the query's own block where its step is. -/
theorem own_block : ∀ (p : Fin 3) (k : Fin 256), 128 ≤ step p k.val ↔ ¬k.val < 128 := by decide +kernel

/-- The reference's result before its heads are paired, at an index of an interior block. -/
theorem interior_apply (p : Fin 3) (h : Fin 8) (q : Fin 128) (j : Fin 256) :
    val_main_v91 (F := Ideal) x0 (ix5 p 0 h q j)
      = Scalar.select (val_main_v50 (F := Ideal) (ix3 p q j)) (val_main_v79 (F := Ideal) x0 (ix4 p q j h)) masked := by
  unfold val_main_v91 val_main_v89 val_main_v82 val_main_call2_v1 val_main_v81 val_main_v80
  generalize val_main_v79 (F := Ideal) x0 = G
  generalize val_main_v50 (F := Ideal) = W
  pointwise [val_main_v90, val_main_v88, val_main_call2_v2, val_main_call2_v0, val_main_cst_15]
  rfl

/-- The reference's result before its heads are paired, at an index of a sequence's first block. -/
theorem first_apply (p : Fin 3) (h : Fin 8) (q : Fin 128) (j : Fin 256) :
    val_main_v91 (F := Ideal) x0 (ix5 p 1 h q j)
      = Scalar.select (IntOp.andi (val_main_v50 (F := Ideal) (ix3 p q j)) (IntOp.cmpi .sge (val_main_v32 (F := Ideal) (ix2 p j)) 128#32))
          (val_main_v79 (F := Ideal) x0 (ix4 p q j h)) masked := by
  unfold val_main_v91 val_main_v90 val_main_v88 val_main_call3_v1 val_main_v87 val_main_v86 val_main_v85 val_main_v84 val_main_v33 val_main_v80
  generalize val_main_v79 (F := Ideal) x0 = G
  generalize val_main_v50 (F := Ideal) = W
  generalize val_main_v32 (F := Ideal) = K
  pointwise [val_main_v89, val_main_call3_v2, val_main_call3_v0, val_main_cst_17, val_main_v83, val_main_c_16]
  rfl

/-- The reference's result before its heads are paired, at an index. -/
theorem slab_apply (p : Fin 3) (f : Fin 2) (h : Fin 8) (q : Fin 128) (j : Fin 256) :
    val_main_v91 (F := Ideal) x0 (ix5 p f h q j) = entry (fun b h => x0 (ix2 b h)) p (decide (f = 1)) h q.val j.val := by
  have w := window_apply p q j
  have z : IntOp.cmpi .sge (val_main_v32 (F := Ideal) (ix2 p j)) 128#32 = 1#1 ↔ ¬j.val < 128 := by
    have hz := step_lt p j
    rw [← own_block p j, key_apply]
    generalize step p j.val = a at *
    word_omega
  have g : ∀ hw : step p j.val ≤ step p q.val + 128 ∧ step p q.val ≤ step p j.val, val_main_v79 (F := Ideal) x0 (ix4 p q j h)
      = x0 (ix2 (Fin.ofNat 32 (row ((step p q.val + 128 - step p j.val) * dilation p))) h) := by
    intro hw
    have hr : row ((step p q.val + 128 - step p j.val) * dilation p) < 32 := by unfold row; split <;> omega
    have e := Nat.mod_eq_of_lt hr
    refine gather_apply x0 p q j h _ ((row_apply p q j hw).trans (congrArg (BitVec.ofNat 32) ?_))
    exact e.symm
  unfold entry rowOf
  match f with
  | 0 =>
    rw [interior_apply]
    generalize val_main_v50 (F := Ideal) (ix3 p q j) = W at *
    by_cases hw : step p j.val ≤ step p q.val + 128 ∧ step p q.val ≤ step p j.val
    · rw [if_pos hw, g hw, w.2 hw]
      rfl
    · rw [if_neg hw]
      exact if_neg fun e => hw (w.1 e)
  | 1 =>
    rw [first_apply]
    generalize val_main_v50 (F := Ideal) (ix3 p q j) = W at *
    generalize IntOp.cmpi .sge (val_main_v32 (F := Ideal) (ix2 p j)) 128#32 = Z at *
    by_cases hw : step p j.val ≤ step p q.val + 128 ∧ step p q.val ≤ step p j.val
    · rw [if_pos hw, g hw, w.2 hw]
      by_cases hj : j.val < 128
      · have hZ : Z ≠ 1#1 := fun e => z.1 e hj
        refine (if_neg ?_).trans (if_pos ⟨rfl, hj⟩).symm
        intro e
        exact hZ (by revert e; generalize Z = Z; revert Z; decide)
      · rw [z.2 hj]
        exact (if_neg fun e => hj e.2).symm
    · rw [if_neg hw]
      have hW : W ≠ 1#1 := fun e => hw (w.1 e)
      refine if_neg fun e => hW ?_
      revert e
      clear w z g hW
      revert W Z
      decide

/-- The reference's result, at an index. -/
theorem bias_apply (p : Fin 3) (f : Fin 2) (hp : Fin 4) (i j : Fin 256) :
    val_main_v92 (F := Ideal) x0 (ix5 p f hp i j)
      = entry (fun b h => x0 (ix2 b h)) p (decide (f = 1)) ⟨2 * hp.val + i.val / 128, by omega⟩ (i.val % 128) j.val := by
  have hq : i.val % 128 < 128 := Nat.mod_lt _ (by decide)
  have e : val_main_v92 (F := Ideal) x0 (ix5 p f hp i j) = val_main_v91 (F := Ideal) x0 (ix5 p f ⟨2 * hp.val + i.val / 128, by omega⟩ ⟨i.val % 128, hq⟩ j) := by
    unfold val_main_v92
    generalize val_main_v91 (F := Ideal) x0 = B
    pointwise []
    refine congrArg (fun h => B (ix5 p f h ⟨i.val % 128, hq⟩ j)) (Fin.ext ?_)
    show hp.val * 2 + i.val / 128 = 2 * hp.val + i.val / 128
    omega
  rw [e]
  exact slab_apply x0 p f _ ⟨i.val % 128, hq⟩ j

end Cert.Reference2Ideal.Value

end
-- ==== Proof.BiasArray.lean ====
/- The bias call's result array: every grid point writes one pattern's biases. -/
module

public import proofs.«01_k».proof.Proof.BiasBlock
public import proofs.«01_k».proof.Proof.BiasTable
public import proofs.«01_k».proof.Proof.BiasReference
public import Idealize.ShloMosaic.Lib.Claim

@[expose] public section

set_option maxRecDepth 16384

noncomputable section

namespace Cert.Kernel2Ideal.Array

open Cert.Kernel2Ideal Cert.Kernel2Ideal.Gen Cert.Bias Idealize.ShloMosaic Idealize.ShloMosaic.TcCoe Idealize.SL.Sem
open Idealize.ShloMosaic.Pipeline (Dat)

variable (m : (ℓ : Loc nD τ sig) → Buf (Elt Ideal) ℓ)

/-- The windows' block indices at every grid point. -/
theorem idx : ∀ t : Fin cfg0.N, win0_0.index t = ![0, 0] ∧ win0_1.index t = ![t.val, 0, 0] ∧ win0_2.index t = ![t.val, 0, 0]
    ∧ win0_3.index t = ![t.val, 0, 0, 0, 0] ∧ t.val < 3 :=
  (by decide +kernel : ∀ t : Fin grid0.N, _)

/-- The bias table's block is the argument. -/
theorem rel_at (c : Dev nD) (t : Fin cfg0.N) (b : Fin 32) (h : Fin 8) :
    (iblk m c 0 t : FVec Ideal S32x8 .f32) (ix2 b h) = (m ((c : Thread nD τ).loc main_arg0) : FVec Ideal S32x8 .f32) (ix2 b h) := by
  blk_simp [iblk]
  entry_read
  pointwise []
  blk_ext [idx t]

/-- The row numbers' block at a grid point is a pattern of the first constant table. -/
theorem rows_at (c : Dev nD) (t : Fin cfg0.N) (q : Fin 128) (k : Fin 256) :
    (iblk m c 1 t : IVec S1x128x256 32) (ix3 0 q k) = rowWord (t.val * 32768 + q.val * 256 + k.val) := by
  unfold rowWord
  have ht := (idx t).2.2.2.2
  blk_simp [iblk]
  entry_read
  have e : ((View.whole main_c).slice (win0_1.rect t)).emb (ix3 0 q k) = ix3 ⟨t.val, ht⟩ q k := by blk_ext [idx t]
  rw [e]
  refine congrArg lit0t ((Shape.rowMajor_val_three _).trans ?_)
  show (t.val * 128 + q.val) * 256 + k.val = _
  omega

/-- The marks' block at a grid point is a pattern of the second constant table. -/
theorem marks_at (c : Dev nD) (t : Fin cfg0.N) (q : Fin 128) (k : Fin 256) :
    (iblk m c 2 t : IVec S1x128x256 32) (ix3 0 q k) = markWord (t.val * 32768 + q.val * 256 + k.val) := by
  unfold markWord
  have ht := (idx t).2.2.2.2
  blk_simp [iblk]
  entry_read
  have e : ((View.whole main_c_0).slice (win0_2.rect t)).emb (ix3 0 q k) = ix3 ⟨t.val, ht⟩ q k := by blk_ext [idx t]
  rw [e]
  refine congrArg lit1t ((Shape.rowMajor_val_three _).trans ?_)
  show (t.val * 128 + q.val) * 256 + k.val = _
  omega

/-- A bias row's number is one of the thirty-two. -/
theorem row_lt (n : ℕ) : row n < 32 := by
  unfold row
  split <;> omega

/-- The word of a query and a key picks the bias row, or the masked value where there is none. -/
theorem picked_word (r : Fin 32 → EReal) (p : Fin 3) (q k : ℕ) :
    picked (word p q k) r 32 = match rowOf p q k with | none => masked | some b => r (Fin.ofNat 32 b) := by
  unfold word rowOf
  by_cases h : step p k ≤ step p q + 128 ∧ step p q ≤ step p k
  · rw [if_pos h]
    have hb := row_lt ((step p q + 128 - step p k) * dilation p)
    refine (picked_row r ⟨_, hb⟩ 32 hb le_rfl).trans (congrArg r (Fin.ext ?_))
    exact (Nat.mod_eq_of_lt hb).symm
  · rw [if_neg h]
    exact picked_none _ r 32 (by decide)

/-- The block's score where its words are the bias row and the mark of a pattern. -/
theorem score_entry (x0 : FVec Ideal S32x8 .f32) (x1 x2 : IVec S1x128x256 32) (p : Fin 3) (f : Fin 2) (h : Fin 8) (q : Fin 128) (k : Fin 256)
    (h1 : x1 (ix3 0 q k) = word p q.val k.val) (h2 : (x2 (ix3 0 q k)).toNat = 1 - k.val / 128) :
    Block.score x0 x1 x2 f h q k = entry (fun b h => x0 (ix2 b h)) p (decide (f = 1)) h q.val k.val := by
  unfold Block.score
  rw [h1, picked_word]
  generalize x2 (ix3 0 q k) = w at h2 ⊢
  have e : w ≠ 0#32 ↔ k.val < 128 := by
    constructor
    · intro z
      by_contra hj
      exact z (BitVec.eq_of_toNat_eq (h2.trans (by show _ = 0; omega)))
    · intro hj z
      rw [z] at h2
      have : 0 = 1 - k.val / 128 := h2
      omega
  unfold entry
  cases rowOf p q.val k.val with
  | none => exact ite_self _
  | some b =>
    show (if f = 1 ∧ w ≠ 0#32 then masked else _) = if decide (f = 1) = true ∧ k.val < 128 then masked else _
    simp only [decide_eq_true_eq, e]

/-- What a grid point leaves at an index of its block, where the constant tables hold what they should. -/
theorem outs_entry (hT : ∀ (p : Fin 3) (q : Fin 128) (k : Fin 256), agrees p q.val k.val = true) (c : Dev nD) (t : Fin cfg0.N) (ht : t.val < 3)
    (f : Fin 2) (hp : Fin 4) (i j : Fin 256) :
    outsAt0 m c t (ix5 0 f hp i j) = entry (fun b h => (m ((c : Thread nD τ).loc main_arg0) : FVec Ideal S32x8 .f32) (ix2 b h)) ⟨t.val, ht⟩
      (decide (f = 1)) ⟨2 * hp.val + i.val / 128, by omega⟩ (i.val % 128) j.val := by
  rw [Block.outs_apply]
  have hq : i.val % 128 < 128 := Nat.mod_lt _ (by decide)
  have h := of_agrees (hT ⟨t.val, ht⟩ ⟨i.val % 128, hq⟩ j)
  refine (score_entry _ _ _ ⟨t.val, ht⟩ f ⟨2 * hp.val + i.val / 128, by omega⟩ ⟨i.val % 128, hq⟩ j ((rows_at m c t _ _).trans h.1)
    ((congrArg BitVec.toNat (marks_at m c t _ _)).trans h.2)).trans ?_
  exact congrArg (fun r => entry r _ _ _ _ _) (funext fun b => funext fun h => rel_at m c t b h)

/-- The reference's result over the call's argument. -/
def REF (c : Dev nD) : FVec Ideal S3x2x4x256x256 .f32 :=
  Cert.Reference2Ideal.Read.val_main_v92 (F := Ideal) (m ((c : Thread nD τ).loc main_arg0))

/-- What the point of a pattern leaves at an index of its block is the reference's element. -/
theorem outs_eq (hT : ∀ (p : Fin 3) (q : Fin 128) (k : Fin 256), agrees p q.val k.val = true) (c : Dev nD) (t : Fin cfg0.N) (ht : t.val < 3)
    (f : Fin 2) (hp : Fin 4) (i j : Fin 256) : outsAt0 m c t (ix5 0 f hp i j) = REF m c (ix5 ⟨t.val, ht⟩ f hp i j) :=
  (outs_entry m hT c t ht f hp i j).trans (Cert.Reference2Ideal.Value.bias_apply _ ⟨t.val, ht⟩ f hp i j).symm

/-- The result array after the run is the reference's. -/
theorem final (hT : ∀ (p : Fin 3) (q : Fin 128) (k : Fin 256), agrees p q.val k.val = true) (c : Dev nD) :
    (dats m 0 c).arrAt 3 cfg0.N = REF m c := by
  refine (dats m 0 c).arrAt_eq_of_covers 3 _ (by decide +kernel) fun t _ y => ?_
  have ht := (idx t).2.2.2.2
  blk_simp
  rw [after0_3]
  idx_vars y
  rw [Subsingleton.elim y0 0, outs_eq m hT c t ht]
  refine congrArg (REF m c) ?_
  blk_ext [idx t]

end Cert.Kernel2Ideal.Array

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Array
public import proofs.«01_k».proof.Proof.BiasTable0
public import proofs.«01_k».proof.Proof.BiasTable1
public import proofs.«01_k».proof.Proof.BiasTable2
public import proofs.«01_k».proof.Proof.BiasArray
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments as they are, and every semaphore counter at zero. -/
theorem reference_frame : quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The kernel's result is the reference's, element by element over the extended reals. -/
theorem value : algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Array.REF m c, ?_, ?_⟩
  · exact (θ_run _ _ _).mono (fun r h c => ⟨(h c).1.trans (Cert.KernelIdeal.Array.final m c), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2, h3, h4, h5, h6⟩ := hag c
    rw [Cert.ReferenceIdeal.Read.val_main_v21_eq, h0, h1, h2, h3, h4, h5, h6]
    rfl

/-- The bias call's reference leaves its argument as it is, and every semaphore counter at zero. -/
theorem bias_reference_frame : quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

/-- The bias call's constant tables hold the bias rows and the marks of the three patterns. -/
theorem tables (p : Fin 3) (q : Fin 128) (k : Fin 256) : Cert.Bias.agrees p q.val k.val = true :=
  match p with
  | 0 => Cert.Bias.table0 q k
  | 1 => Cert.Bias.table1 q k
  | 2 => Cert.Bias.table2 q k

/-- The bias call's result is the reference's, element by element over the extended reals. -/
theorem bias_value : algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Array.REF m c, ?_, ?_⟩
  · exact (θ_run _ _ _).mono (fun r h c => ⟨(h c).1.trans (Cert.Kernel2Ideal.Array.final m tables c), (h c).2⟩)
      (Cert.Kernel2Ideal.Value.run_blocks m g)
  · refine (θ_run _ _ _).mono (fun r h c => ⟨(h c).1.trans ?_, (h c).2⟩) (Cert.Reference2Ideal.Value.run m' g')
    rw [Cert.Reference2Ideal.Read.val_main_v92_eq, hag c]
    rfl

/-- All ten claims: of each of the two calls the three frames, the idealisation, and the value. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, bias_reference_frame,
  trivial, value, trivial, bias_value⟩

end Cert.Proof

end
